-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S20x2048x1536 : Shape := ⟨3, ![20, 2048, 1536]⟩
abbrev S1536x8960 : Shape := ⟨2, ![1536, 8960]⟩
abbrev S8960 : Shape := ⟨1, ![8960]⟩
abbrev S16 : Shape := ⟨1, ![16]⟩
abbrev S_ : Shape := ⟨0, ![]⟩

class Facts : Prop where
  bitsLt_bf16_f32 : FTy.bits .bf16 < FTy.bits .f32
  bcast_S_S20x2048x1536 : S_.BroadcastsInDim S20x2048x1536 (![] : Fin 0 → Fin S20x2048x1536.rank)
  bcast_S_S16 : S_.BroadcastsInDim S16 (![] : Fin 0 → Fin S16.rank)

variable [Facts]

def fn {F : FTy → Type} [FloatOps F] (main_arg0 : FVec F S20x2048x1536 .bf16) (main_arg1 : FVec F S1536x8960 .fp8e4m3) (main_arg2 : FVec F S8960 .f32) (main_arg3 : FVec F S16 .f32) : IVec S20x2048x1536 1 × IVec S16 1 :=
  let main_v0 : FVec F S20x2048x1536 .f32 := (extf .f32 · bitsLt_bf16_f32) main_arg0
  let main_v1 : FVec F S20x2048x1536 .f32 := Host.absf main_v0
  let main_cst : FVec F S_ .f32 := constant S_ .f32 0x7F7FFFFF#32
  let main_v2 : FVec F S20x2048x1536 .f32 := broadcastInDim S20x2048x1536 ![] bcast_S_S20x2048x1536 main_cst
  let main_v3 : IVec S20x2048x1536 1 := cmpf .ole main_v1 main_v2
  let main_v4 : FVec F S16 .f32 := Host.absf main_arg3
  let main_cst_0 : FVec F S_ .f32 := constant S_ .f32 0x7F7FFFFF#32
  let main_v5 : FVec F S16 .f32 := broadcastInDim S16 ![] bcast_S_S16 main_cst_0
  let main_v6 : IVec S16 1 := cmpf .ole main_v4 main_v5
  (main_v3, main_v6)
-- ==== Kernel.lean ====
abbrev S20x2048x1536 : Shape := ⟨3, ![20, 2048, 1536]⟩
abbrev S1536x8960 : Shape := ⟨2, ![1536, 8960]⟩
abbrev S8960 : Shape := ⟨1, ![8960]⟩
abbrev S16 : Shape := ⟨1, ![16]⟩
abbrev S40960x1536 : Shape := ⟨2, ![40960, 1536]⟩
abbrev S1x8960 : Shape := ⟨2, ![1, 8960]⟩
abbrev S40960x8960 : Shape := ⟨2, ![40960, 8960]⟩
abbrev S1x1 : Shape := ⟨2, ![1, 1]⟩
abbrev S20x2048 : Shape := ⟨2, ![20, 2048]⟩
abbrev S512x1536 : Shape := ⟨2, ![512, 1536]⟩
abbrev S1024x8960 : Shape := ⟨2, ![1024, 8960]⟩
abbrev S1024x1536 : Shape := ⟨2, ![1024, 1536]⟩
abbrev S512x128 : Shape := ⟨2, ![512, 128]⟩
abbrev S320x128 : Shape := ⟨2, ![320, 128]⟩
abbrev S8x8960 : Shape := ⟨2, ![8, 8960]⟩
abbrev S1 : Shape := ⟨1, ![1]⟩
abbrev S1x256 : Shape := ⟨2, ![1, 256]⟩
abbrev S255x1x256 : Shape := ⟨3, ![255, 1, 256]⟩
abbrev S1x1x256 : Shape := ⟨3, ![1, 1, 256]⟩
abbrev S32x1536 : Shape := ⟨2, ![32, 1536]⟩
abbrev S32 : Shape := ⟨1, ![32]⟩
abbrev S32x1 : Shape := ⟨2, ![32, 1]⟩
abbrev S32x128 : Shape := ⟨2, ![32, 128]⟩
abbrev S255x32x128 : Shape := ⟨3, ![255, 32, 128]⟩
abbrev S1x32x128 : Shape := ⟨3, ![1, 32, 128]⟩
abbrev S1536x256 : Shape := ⟨2, ![1536, 256]⟩
abbrev S512x256 : Shape := ⟨2, ![512, 256]⟩
abbrev S64x8x256 : Shape := ⟨3, ![64, 8, 256]⟩
abbrev S8x256 : Shape := ⟨2, ![8, 256]⟩
abbrev S128x128 : Shape := ⟨2, ![128, 128]⟩
abbrev S128 : Shape := ⟨1, ![128]⟩
abbrev S1x128 : Shape := ⟨2, ![1, 128]⟩
abbrev S1x8x8960 : Shape := ⟨3, ![1, 8, 8960]⟩
abbrev S1x1x1 : Shape := ⟨3, ![1, 1, 1]⟩

abbrev nBuf : Space → Nat
  | .hbm => 11
  | .vmem => 20
  | .smem => 1
  | _ => 0

abbrev bufTy : (tb : Table) → Fin (tcTables nBuf tb) → BufTy
  | .hbm, ⟨0, _⟩ => ⟨S20x2048x1536, .bf16⟩
  | .hbm, ⟨1, _⟩ => ⟨S1536x8960, .fp8e4m3⟩
  | .hbm, ⟨2, _⟩ => ⟨S8960, .f32⟩
  | .hbm, ⟨3, _⟩ => ⟨S16, .f32⟩
  | .hbm, ⟨4, _⟩ => ⟨S40960x1536, .bf16⟩
  | .hbm, ⟨5, _⟩ => ⟨S1x8960, .f32⟩
  | .hbm, ⟨6, _⟩ => ⟨S40960x8960, .fp8e4m3⟩
  | .hbm, ⟨7, _⟩ => ⟨S1x1, .f32⟩
  | .hbm, ⟨8, _⟩ => ⟨S1x1, .f32⟩
  | .hbm, ⟨9, _⟩ => ⟨S40960x1536, .fp8e4m3⟩
  | .hbm, ⟨10, _⟩ => ⟨S20x2048, .f32⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S512x1536, .bf16⟩
  | .local _ .vmem, ⟨5, _⟩ => ⟨S1536x8960, .fp8e4m3⟩
  | .local _ .vmem, ⟨6, _⟩ => ⟨S1x8960, .f32⟩
  | .local _ .vmem, ⟨7, _⟩ => ⟨S1024x8960, .fp8e4m3⟩
  | .local _ .vmem, ⟨8, _⟩ => ⟨S1024x8960, .fp8e4m3⟩
  | .local _ .vmem, ⟨9, _⟩ => ⟨S1x1, .f32⟩
  | .local _ .vmem, ⟨10, _⟩ => ⟨S1x1, .f32⟩
  | .local _ .vmem, ⟨11, _⟩ => ⟨S1024x1536, .fp8e4m3⟩
  | .local _ .vmem, ⟨12, _⟩ => ⟨S1024x1536, .fp8e4m3⟩
  | .local _ .vmem, ⟨13, _⟩ => ⟨S20x2048, .f32⟩
  | .local _ .vmem, ⟨14, _⟩ => ⟨S512x1536, .fp8e4m3⟩
  | .local _ .vmem, ⟨15, _⟩ => ⟨S512x128, .f32⟩
  | .local _ .vmem, ⟨16, _⟩ => ⟨S512x1536, .fp8e4m3⟩
  | .local _ .vmem, ⟨17, _⟩ => ⟨S512x128, .f32⟩
  | .local _ .vmem, ⟨18, _⟩ => ⟨S320x128, .f32⟩
  | .local _ .vmem, ⟨19, _⟩ => ⟨S8x8960, .f32⟩
  | .local _ .smem, ⟨0, _⟩ => ⟨S16, .f32⟩
  | _, _ => ⟨S20x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14

abbrev nD : Nat := 1
abbrev τ : Topo := Topo.v7x

variable {F : FTy → Type} [FloatOps F]

abbrev grid0 : Pipeline.Grid := ⟨1, ![40], ![false]⟩

def k0_off1 (i : grid0.Coords) (c0_i32_950 : BitVec 32) : Fin 2 → Nat :=
  let arg0 : BitVec 32 := BitVec.ofNat 32 (i 0).val
  let c2_i32 : BitVec 32 := 2#32
  let v68 : BitVec 32 := Scalar.muli arg0 c2_i32
  let c4_i32 : BitVec 32 := 4#32
  let v69 : BitVec 32 := Scalar.muli v68 c4_i32
  let v1854 : BitVec 32 := Scalar.addi v69 c0_i32_950
  let v1855 : Index := Scalar.indexCast v1854
  let c0_951 : Index := 0#32
  ![v1855.toNat, 0]
def k0_off2 (i : grid0.Coords) (c0_i32_1962 : BitVec 32) : Fin 2 → Nat :=
  let arg0 : BitVec 32 := BitVec.ofNat 32 (i 0).val
  let c2_i32_969 : BitVec 32 := 2#32
  let v1889 : BitVec 32 := Scalar.muli arg0 c2_i32_969
  let c4_i32_970 : BitVec 32 := 4#32
  let v1890 : BitVec 32 := Scalar.muli v1889 c4_i32_970
  let c4_i32_971 : BitVec 32 := 4#32
  let v1891 : BitVec 32 := Scalar.addi v1890 c4_i32_971
  let v3676 : BitVec 32 := Scalar.addi v1891 c0_i32_1962
  let v3677 : Index := Scalar.indexCast v3676
  let c0_1963 : Index := 0#32
  ![v3677.toNat, 0]
def k0_cond1 (i : grid0.Coords) : BitVec 1 :=
  let arg0 : BitVec 32 := BitVec.ofNat 32 (i 0).val
  let c0_i32_6 : BitVec 32 := 0#32
  let v65 : BitVec 1 := Scalar.cmpi .eq arg0 c0_i32_6
  let v66 : BitVec 32 := Scalar.extui v65
  let c0_i32_7 : BitVec 32 := 0#32
  let v67 : BitVec 1 := Scalar.cmpi .ne v66 c0_i32_7
  v67

def k0_cond2 (i : grid0.Coords) : BitVec 1 :=
  let arg0 : BitVec 32 := BitVec.ofNat 32 (i 0).val
  let c39_i32 : BitVec 32 := 39#32
  let v3711 : BitVec 1 := Scalar.cmpi .eq arg0 c39_i32
  let v3712 : BitVec 32 := Scalar.extui v3711
  let c0_i32_1982 : BitVec 32 := 0#32
  let v3713 : BitVec 1 := Scalar.cmpi .ne v3712 c0_i32_1982
  v3713

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c79_i32 : BitVec 32 := 79#32
  let v2 : BitVec 32 := Scalar.minsi v1 c79_i32
  let c0_i32 : BitVec 32 := 0#32
  let c0_i32_1 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x8960 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x8960 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1536 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S20x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S20x2048x1536 : Shape := ⟨3, ![20, 2048, 1536]⟩
abbrev S1536x8960 : Shape := ⟨2, ![1536, 8960]⟩
abbrev S8960 : Shape := ⟨1, ![8960]⟩
abbrev S16 : Shape := ⟨1, ![16]⟩
abbrev S40960x1536 : Shape := ⟨2, ![40960, 1536]⟩
abbrev S1x8960 : Shape := ⟨2, ![1, 8960]⟩
abbrev S1x16 : Shape := ⟨2, ![1, 16]⟩
abbrev S40960x8960 : Shape := ⟨2, ![40960, 8960]⟩
abbrev S1x1 : Shape := ⟨2, ![1, 1]⟩
abbrev S20x2048 : Shape := ⟨2, ![20, 2048]⟩
abbrev S40960 : Shape := ⟨1, ![40960]⟩
abbrev S40960x1 : Shape := ⟨2, ![40960, 1]⟩
abbrev S1x1x16 : Shape := ⟨3, ![1, 1, 16]⟩
abbrev S1 : Shape := ⟨1, ![1]⟩
abbrev S1x1x1 : Shape := ⟨3, ![1, 1, 1]⟩
abbrev S1x40960x8960 : Shape := ⟨3, ![1, 40960, 8960]⟩

abbrev nBuf : Space → Nat
  | .hbm => 12
  | .vmem => 9
  | .smem => 0
  | _ => 0

abbrev bufTy : (tb : Table) → Fin (tcTables nBuf tb) → BufTy
  | .hbm, ⟨0, _⟩ => ⟨S20x2048x1536, .bf16⟩
  | .hbm, ⟨1, _⟩ => ⟨S1536x8960, .fp8e4m3⟩
  | .hbm, ⟨2, _⟩ => ⟨S8960, .f32⟩
  | .hbm, ⟨3, _⟩ => ⟨S16, .f32⟩
  | .hbm, ⟨4, _⟩ => ⟨S40960x1536, .bf16⟩
  | .hbm, ⟨5, _⟩ => ⟨S1x8960, .f32⟩
  | .hbm, ⟨6, _⟩ => ⟨S1x16, .f32⟩
  | .hbm, ⟨7, _⟩ => ⟨S40960x8960, .fp8e4m3⟩
  | .hbm, ⟨8, _⟩ => ⟨S1x1, .f32⟩
  | .hbm, ⟨9, _⟩ => ⟨S1x1, .f32⟩
  | .hbm, ⟨10, _⟩ => ⟨S40960x1536, .fp8e4m3⟩
  | .hbm, ⟨11, _⟩ => ⟨S20x2048, .f32⟩
  | .local _ .vmem, ⟨0, _⟩ => ⟨S40960x1536, .bf16⟩
  | .local _ .vmem, ⟨1, _⟩ => ⟨S1536x8960, .fp8e4m3⟩
  | .local _ .vmem, ⟨2, _⟩ => ⟨S1x8960, .f32⟩
  | .local _ .vmem, ⟨3, _⟩ => ⟨S1x16, .f32⟩
  | .local _ .vmem, ⟨4, _⟩ => ⟨S40960x8960, .fp8e4m3⟩
  | .local _ .vmem, ⟨5, _⟩ => ⟨S1x1, .f32⟩
  | .local _ .vmem, ⟨6, _⟩ => ⟨S1x1, .f32⟩
  | .local _ .vmem, ⟨7, _⟩ => ⟨S40960x1536, .fp8e4m3⟩
  | .local _ .vmem, ⟨8, _⟩ => ⟨S20x2048, .f32⟩
  | _, _ => ⟨S20x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S40960x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x8960 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40960x8960 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S40960x1536 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S20x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KRuns.lean ====
/- What the runs of the kernel's frame share: @main up to the region, the blocks of the windows, the conditions. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 4 rfl).trans ((hA c 4).trans (V_main_arg1 m c)),
      ((h c).2 main_arg2 (Pipeline.mem_restRefs_of main_arg2 (by decide) (by decide))).trans (V_main_arg2 m c),
      (Pipeline.RDat.FramePost.arr_in h c 0 rfl).trans ((hA c 0).trans (V_main_arg3 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 40 = 0 :=
  (fun t => by
    have ht : t.val < 40 := Nat.lt_of_lt_of_eq t.isLt N_0
    have e0 : (grid0.coords t 0).val = t.val / 1 % 40 := Pipeline.Grid.coords_val t 0 (by decide) rfl
    simp only [cond0_0, k0_cond1, e0]
    word_cmp
   : ∀ t : Fin grid0.N, cond0_0 (grid0.coords t) ↔ t.val % 40 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 40 = 39 :=
  (fun t => by
    have ht : t.val < 40 := Nat.lt_of_lt_of_eq t.isLt N_0
    have e0 : (grid0.coords t 0).val = t.val / 1 % 40 := Pipeline.Grid.coords_val t 0 (by decide) rfl
    simp only [cond0_1, k0_cond2, e0]
    word_cmp
   : ∀ t : Fin grid0.N, cond0_1 (grid0.coords t) ↔ t.val % 40 = 39)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1536 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x8960 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8960 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x8960 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1536 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S20x2048 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S512x1536 .fp8e4m3 := Memref.whole cc0_scratch0
abbrev scM0_1 : Memref sig .tc .vmem S512x128 .f32 := Memref.whole cc0_scratch1
abbrev scM0_2 : Memref sig .tc .vmem S512x1536 .fp8e4m3 := Memref.whole cc0_scratch2
abbrev scM0_3 : Memref sig .tc .vmem S512x128 .f32 := Memref.whole cc0_scratch3
abbrev scM0_4 : Memref sig .tc .vmem S320x128 .f32 := Memref.whole cc0_scratch4
abbrev scM0_5 : Memref sig .tc .vmem S8x8960 .f32 := Memref.whole cc0_scratch5
/-- The scratch `arg12` the kernel carries between points, as a view: what it holds is stated through it. -/
abbrev VS0_0 : View sig .tc .vmem S512x1536 .fp8e4m3 := scM0_0.view
/-- The scratch `arg13` the kernel carries between points, as a view: what it holds is stated through it. -/
abbrev VS0_1 : View sig .tc .vmem S512x128 .f32 := scM0_1.view
/-- The scratch `arg17` the kernel carries between points, as a view: what it holds is stated through it. -/
abbrev VS0_5 : View sig .tc .vmem S8x8960 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Gen

end
-- ==== Proof.KRunA.lean ====
/- The whole body at the first point: it runs, and what its buffers end with. -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6272000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8, 9, 10) at anything, handed back at some contents nothing names. -/
noncomputable def kernelRun0_A (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : cond0_0 i) (hc1 : ¬cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) :
    Σ' (LS0 : List (View.Piece (Elt F) S512x1536 .fp8e4m3)), Σ' (LS1 : List (View.Piece (Elt F) S512x128 .f32)), Σ' (LS5 : List (View.Piece (Elt F) S8x8960 .f32)), Σ' (LT2 : List (View.Piece (Elt F) S512x1536 .fp8e4m3)), { LT3 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LT3) ∗ (∃ d, owns (c : Thread nD τ) arg16 fullShare d) ∗ (∃ f, arg17.view.loc (c : Thread nD τ) ↦[arg17.view.set]{fullShare} arg17.view.writes (Elt F) f LS5)) -∗ K ⟨⟩))
          ⊢ wp frame (wpE (defs₀ (F := F)) Variants.none c none) E (cc0_fp8_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_fp8_linear_eq_skeleton]; unfold cc0_fp8_linear_skel
    simp only [k0_part159_eq_skeleton, k0_part60_eq_skeleton, k0_part61_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part160_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]; · iexists _; iexact HS0
    isplitl [HS1]; · iexists _; iexact HS1
    isplitl [HS2]; · iexists _; iexact HS2
    isplitl [HS3]; · iexists _; iexact HS3
    isplitl [HS4]
    · iexists _, _; isplitr; swap; · iexact HS4
      ipureintro; rfl
    iexists _; iexact HS5

end Cert.Kernel.Gen

end
-- ==== Proof.KRunB.lean ====
/- The whole body at a middle point: it runs, and what its buffers end with. -/
module

public import proofs.«01_k».proof.Proof.KRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5500000 in
/-- What the body's stores leave in each output's staging memref, as pieces (last first) IN CASE B (`scf.if` 0 not taken, `scf.if` 1 not taken: points 1, 2, … 38: 38 of 40), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8, 9, 10) at anything, handed back at some contents nothing names. -/
noncomputable def kernelRun0_B (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : ¬cond0_0 i) (hc1 : ¬cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (xs0 : Vec F S512x1536 .fp8e4m3) (xs1 : Vec F S512x128 .f32) (xs5 : Vec F S8x8960 .f32) :
    Σ' (LS0 : List (View.Piece (Elt F) S512x1536 .fp8e4m3)), Σ' (LS1 : List (View.Piece (Elt F) S512x128 .f32)), Σ' (LS5 : List (View.Piece (Elt F) S8x8960 .f32)), Σ' (LT2 : List (View.Piece (Elt F) S512x1536 .fp8e4m3)), { LT3 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LT3) ∗ (∃ d, owns (c : Thread nD τ) arg16 fullShare d) ∗ (∃ f, arg17.view.loc (c : Thread nD τ) ↦[arg17.view.set]{fullShare} arg17.view.writes (Elt F) f LS5)) -∗ K ⟨⟩))
          ⊢ wp frame (wpE (defs₀ (F := F)) Variants.none c none) E (cc0_fp8_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_fp8_linear_eq_skeleton]; unfold cc0_fp8_linear_skel
    simp only [k0_part159_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part160_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, ⟨%ds2, %fs2, -, HS2⟩, ⟨%ds3, %fs3, -, HS3⟩, ⟨%ds4, %fs4, -, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hfs0; obtain rfl := harg13.eq_unread hfs1; obtain rfl := harg17.eq_unread hfs5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]; · iexists _; iexact HS0
    isplitl [HS1]; · iexists _; iexact HS1
    isplitl [HS2]; · iexists _; iexact HS2
    isplitl [HS3]; · iexists _; iexact HS3
    isplitl [HS4]
    · iexists _, _; isplitr; swap; · iexact HS4
      ipureintro; rfl
    iexists _; iexact HS5

end Cert.Kernel.Gen

end
-- ==== Proof.KRunC.lean ====
/- The whole body at the last point: it runs, and what its buffers end with. -/
module

public import proofs.«01_k».proof.Proof.KRunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 9732000 in
/-- What the body's stores leave in each output's staging memref, as pieces (last first) IN CASE C (`scf.if` 0 not taken, `scf.if` 1 taken: points 39), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8, 9, 10) at anything, handed back at some contents nothing names. -/
noncomputable def kernelRun0_C (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : ¬cond0_0 i) (hc1 : cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (xs0 : Vec F S512x1536 .fp8e4m3) (xs1 : Vec F S512x128 .f32) (xs5 : Vec F S8x8960 .f32) :
    Σ' (LS0 : List (View.Piece (Elt F) S512x1536 .fp8e4m3)), Σ' (LS1 : List (View.Piece (Elt F) S512x128 .f32)), Σ' (LS5 : List (View.Piece (Elt F) S8x8960 .f32)), Σ' (LT2 : List (View.Piece (Elt F) S512x1536 .fp8e4m3)), { LT3 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LT3) ∗ (∃ d, owns (c : Thread nD τ) arg16 fullShare d) ∗ (∃ f, arg17.view.loc (c : Thread nD τ) ↦[arg17.view.set]{fullShare} arg17.view.writes (Elt F) f LS5)) -∗ K ⟨⟩))
          ⊢ wp frame (wpE (defs₀ (F := F)) Variants.none c none) E (cc0_fp8_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_fp8_linear_eq_skeleton]; unfold cc0_fp8_linear_skel
    simp only [k0_part159_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part160_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part59_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, ⟨%ds2, %fs2, -, HS2⟩, ⟨%ds3, %fs3, -, HS3⟩, ⟨%ds4, %fs4, -, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hfs0; obtain rfl := harg13.eq_unread hfs1; obtain rfl := harg17.eq_unread hfs5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]; · iexists _; iexact HS0
    isplitl [HS1]; · iexists _; iexact HS1
    isplitl [HS2]; · iexists _; iexact HS2
    isplitl [HS3]; · iexists _; iexact HS3
    isplitl [HS4]
    · iexists _, _; isplitr; swap; · iexact HS4
      ipureintro; rfl
    iexists _; iexact HS5

end Cert.Kernel.Gen

end
-- ==== Proof.KFrame.lean ====
/- The frame of the kernel: every run ends, with the arguments as they were and every counter at zero. -/
module

public import proofs.«01_k».proof.Proof.KRunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg12`, which the kernel carries between points, cover it: 32 pieces of `S32x1536` tiling it (Lib/Ring.lean `Piece.tiledL`). -/
theorem scover0_A_0 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : cond0_0 i) (hc1 : ¬cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (y : S512x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).1 S32x1536.size (by sl_kernel_rfl) y

/-- What case A leaves in scratch `arg12`: its pieces read back over junk. -/
def sout0_A_0 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : cond0_0 i) (hc1 : ¬cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) : Vec F S512x1536 .fp8e4m3 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).1)

/-- Case A's pieces for scratch `arg13`, which the kernel carries between points, cover it: 32 pieces of `S32x128` tiling it (Lib/Ring.lean `Piece.tiledL`). -/
theorem scover0_A_1 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : cond0_0 i) (hc1 : ¬cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.1 S32x128.size (by sl_kernel_rfl) y

/-- What case A leaves in scratch `arg13`: its pieces read back over junk. -/
def sout0_A_1 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : cond0_0 i) (hc1 : ¬cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) : Vec F S512x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.1)

/-- Case A's pieces for scratch `arg17`, which the kernel carries between points, cover it: one of them a store of the WHOLE buffer (Lib/Ring.lean `sl_whole_mem`). -/
theorem scover0_A_5 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : cond0_0 i) (hc1 : ¬cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (y : S8x8960.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.1 (by sl_whole_mem) y

/-- What case A leaves in scratch `arg17`: its pieces read back over junk. -/
def sout0_A_5 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : cond0_0 i) (hc1 : ¬cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) : Vec F S8x8960 .f32 :=
  VS0_5.read (Elt F) (VS0_5.writes (Elt F) VS0_5.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.1)

/-- Case B's pieces for scratch `arg12`, which the kernel carries between points, cover it: 16 pieces of `S32x1536` tiling it (Lib/Ring.lean `Piece.tiledL`). -/
theorem scover0_B_0 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : ¬cond0_0 i) (hc1 : ¬cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (xs0 : Vec F S512x1536 .fp8e4m3) (xs1 : Vec F S512x128 .f32) (xs5 : Vec F S8x8960 .f32) (y : S512x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).1 S32x1536.size (by sl_kernel_rfl) y

/-- What case B leaves in scratch `arg12`: its pieces read back over junk. -/
def sout0_B_0 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : ¬cond0_0 i) (hc1 : ¬cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (xs0 : Vec F S512x1536 .fp8e4m3) (xs1 : Vec F S512x128 .f32) (xs5 : Vec F S8x8960 .f32) : Vec F S512x1536 .fp8e4m3 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).1)

/-- Case B's pieces for scratch `arg13`, which the kernel carries between points, cover it: 16 pieces of `S32x128` tiling it (Lib/Ring.lean `Piece.tiledL`). -/
theorem scover0_B_1 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : ¬cond0_0 i) (hc1 : ¬cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (xs0 : Vec F S512x1536 .fp8e4m3) (xs1 : Vec F S512x128 .f32) (xs5 : Vec F S8x8960 .f32) (y : S512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).2.1 S32x128.size (by sl_kernel_rfl) y

/-- What case B leaves in scratch `arg13`: its pieces read back over junk. -/
def sout0_B_1 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : ¬cond0_0 i) (hc1 : ¬cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (xs0 : Vec F S512x1536 .fp8e4m3) (xs1 : Vec F S512x128 .f32) (xs5 : Vec F S8x8960 .f32) : Vec F S512x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).2.1)

/-- Case B's pieces for scratch `arg17`, which the kernel carries between points, cover it: 70 pieces of `S8x256` tiling it (Lib/Ring.lean `Piece.tiledL`). -/
theorem scover0_B_5 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : ¬cond0_0 i) (hc1 : ¬cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (xs0 : Vec F S512x1536 .fp8e4m3) (xs1 : Vec F S512x128 .f32) (xs5 : Vec F S8x8960 .f32) (y : S8x8960.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).2.2.1 S8x256.size (by sl_kernel_rfl) y

/-- What case B leaves in scratch `arg17`: its pieces read back over junk. -/
def sout0_B_5 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : ¬cond0_0 i) (hc1 : ¬cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (xs0 : Vec F S512x1536 .fp8e4m3) (xs1 : Vec F S512x128 .f32) (xs5 : Vec F S8x8960 .f32) : Vec F S8x8960 .f32 :=
  VS0_5.read (Elt F) (VS0_5.writes (Elt F) VS0_5.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).2.2.1)

/-- Case C's pieces for scratch `arg12`, which the kernel carries between points, cover it: 16 pieces of `S32x1536` tiling it (Lib/Ring.lean `Piece.tiledL`). -/
theorem scover0_C_0 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : ¬cond0_0 i) (hc1 : cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (xs0 : Vec F S512x1536 .fp8e4m3) (xs1 : Vec F S512x128 .f32) (xs5 : Vec F S8x8960 .f32) (y : S512x1536.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).1 S32x1536.size (by sl_kernel_rfl) y

/-- What case C leaves in scratch `arg12`: its pieces read back over junk. -/
def sout0_C_0 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : ¬cond0_0 i) (hc1 : cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (xs0 : Vec F S512x1536 .fp8e4m3) (xs1 : Vec F S512x128 .f32) (xs5 : Vec F S8x8960 .f32) : Vec F S512x1536 .fp8e4m3 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).1)

/-- Case C's pieces for scratch `arg13`, which the kernel carries between points, cover it: 16 pieces of `S32x128` tiling it (Lib/Ring.lean `Piece.tiledL`). -/
theorem scover0_C_1 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : ¬cond0_0 i) (hc1 : cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (xs0 : Vec F S512x1536 .fp8e4m3) (xs1 : Vec F S512x128 .f32) (xs5 : Vec F S8x8960 .f32) (y : S512x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).2.1 S32x128.size (by sl_kernel_rfl) y

/-- What case C leaves in scratch `arg13`: its pieces read back over junk. -/
def sout0_C_1 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : ¬cond0_0 i) (hc1 : cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (xs0 : Vec F S512x1536 .fp8e4m3) (xs1 : Vec F S512x128 .f32) (xs5 : Vec F S8x8960 .f32) : Vec F S512x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).2.1)

/-- Case C's pieces for scratch `arg17`, which the kernel carries between points, cover it: 70 pieces of `S8x256` tiling it (Lib/Ring.lean `Piece.tiledL`). -/
theorem scover0_C_5 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : ¬cond0_0 i) (hc1 : cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (xs0 : Vec F S512x1536 .fp8e4m3) (xs1 : Vec F S512x128 .f32) (xs5 : Vec F S8x8960 .f32) (y : S8x8960.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).2.2.1 S8x256.size (by sl_kernel_rfl) y

/-- What case C leaves in scratch `arg17`: its pieces read back over junk. -/
def sout0_C_5 (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : ¬cond0_0 i) (hc1 : cond0_1 i)
    (x0 : Vec F S16 .f32) (x1 : Vec F S512x1536 .bf16) (x2 : Vec F S512x1536 .bf16) (x3 : Vec F S512x1536 .bf16) (x4 : Vec F S1536x8960 .fp8e4m3) (x5 : Vec F S1x8960 .f32) (xs0 : Vec F S512x1536 .fp8e4m3) (xs1 : Vec F S512x128 .f32) (xs5 : Vec F S8x8960 .f32) : Vec F S8x8960 .f32 :=
  VS0_5.read (Elt F) (VS0_5.writes (Elt F) VS0_5.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs5).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1536 .fp8e4m3 × Vec F S512x128 .f32 × Vec F S8x8960 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 40 = 0 then
      if h1 : (n + 1) % 40 = 39 then
        False.elim (by have hN : n + 1 < 40 := lt_of_lt_of_eq hn (show cfg0.N = 40 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 40 = 39 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 40 = 0) (h1 : ¬t.val % 40 = 39) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 40 = 0) (h1 : ¬t.val % 40 = 39) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 40 = 0) (h1 : t.val % 40 = 39) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare ((outsAt0 m c (n - 1) (by omega)).2.2)) ∗ (∃ r, prngReg c r)) := by
  cases n with
  | zero => exact absurd rfl hz
  | succ n => rfl

/-! ## The pipeline's proof data -/

/-- The output windows this certificate FORGETS (6, 7, 8, 9, 10): nothing reads what the kernel leaves in them, so nothing
    of it is named (Lib/Pipeline/Dat.lean `Dat.toRForget`). -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  by_cases h0 : t.val % 40 = 0
  · by_cases h1 : t.val % 40 = 39
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · rw [PhiS_castSucc m c t, PhiS_zero m c _ _ hz, PhiA0_eq]
        rw [outsAt0_A m c t h0 h1]
        unfold sout0_A_0 sout0_A_1 sout0_A_5; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, H10, ⟨%es0, HS0⟩, ⟨%es1, HS1⟩, ⟨%fT2, HS2⟩, ⟨%fT3, HS3⟩, HS4, ⟨%es5, HS5⟩⟩
        isplitl [HS0 HS1 HS2 HS3 HS4 HS5 Hg]
        · isplitl [HS0 HS1 HS2 HS3 HS4 HS5]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · iexact HS4
            unfold owns; iexists _; isplitr
            swap; · iexact HS5
            ipureintro; exact View.read_writes_of_cover _ _ _ _ _ (scover0_A_5 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      · exfalso; have hN : t.val < 40 := lt_of_lt_of_eq t.isLt (show cfg0.N = 40 from N_0); omega
  · by_cases h1 : t.val % 40 = 39
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 40 := lt_of_lt_of_eq t.isLt (show cfg0.N = 40 from N_0); omega
      · rw [PhiS_castSucc m c t, PhiS_pos m c _ _ hz]
        rw [outsAt0_C m c t h0 h1]
        unfold sout0_C_0 sout0_C_1 sout0_C_5; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, H10, ⟨%es0, HS0⟩, ⟨%es1, HS1⟩, ⟨%fT2, HS2⟩, ⟨%fT3, HS3⟩, HS4, ⟨%es5, HS5⟩⟩
        isplitl [HS0 HS1 HS2 HS3 HS4 HS5 Hg]
        · isplitl [HS0 HS1 HS2 HS3 HS4 HS5]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · iexact HS4
            unfold owns; iexists _; isplitr
            swap; · iexact HS5
            ipureintro; exact View.read_writes_of_cover _ _ _ _ _ (scover0_C_5 c _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 40 := lt_of_lt_of_eq t.isLt (show cfg0.N = 40 from N_0); omega
      · rw [PhiS_castSucc m c t, PhiS_pos m c _ _ hz]
        rw [outsAt0_B m c t h0 h1]
        unfold sout0_B_0 sout0_B_1 sout0_B_5; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, H10, ⟨%es0, HS0⟩, ⟨%es1, HS1⟩, ⟨%fT2, HS2⟩, ⟨%fT3, HS3⟩, HS4, ⟨%es5, HS5⟩⟩
        isplitl [HS0 HS1 HS2 HS3 HS4 HS5 Hg]
        · isplitl [HS0 HS1 HS2 HS3 HS4 HS5]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · iexact HS4
            unfold owns; iexists _; isplitr
            swap; · iexact HS5
            ipureintro; exact View.read_writes_of_cover _ _ _ _ _ (scover0_B_5 c _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexact HS2
    isplitl [HS3]
    · iexact HS3
    isplitl [HS4]
    · iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 40 := N_0; omega)

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Base.lean ====
/- What the runs of the kernel body share: the branch conditions in closed form, the staging and scratch memrefs of a point. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 40 = 0 :=
  (fun t => by
    have ht : t.val < 40 := Nat.lt_of_lt_of_eq t.isLt N_0
    have e0 : (grid0.coords t 0).val = t.val / 1 % 40 := Pipeline.Grid.coords_val t 0 (by decide) rfl
    simp only [cond0_0, k0_cond1, e0]
    word_cmp
   : ∀ t : Fin grid0.N, cond0_0 (grid0.coords t) ↔ t.val % 40 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 40 = 39 :=
  (fun t => by
    have ht : t.val < 40 := Nat.lt_of_lt_of_eq t.isLt N_0
    have e0 : (grid0.coords t 0).val = t.val / 1 % 40 := Pipeline.Grid.coords_val t 0 (by decide) rfl
    simp only [cond0_1, k0_cond2, e0]
    word_cmp
   : ∀ t : Fin grid0.N, cond0_1 (grid0.coords t) ↔ t.val % 40 = 39)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1536 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x8960 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8960 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x8960 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1536 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S20x2048 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S512x1536 .fp8e4m3 := Memref.whole cc0_scratch0
abbrev scM0_1 : Memref sig .tc .vmem S512x128 .f32 := Memref.whole cc0_scratch1
abbrev scM0_2 : Memref sig .tc .vmem S512x1536 .fp8e4m3 := Memref.whole cc0_scratch2
abbrev scM0_3 : Memref sig .tc .vmem S512x128 .f32 := Memref.whole cc0_scratch3
abbrev scM0_4 : Memref sig .tc .vmem S320x128 .f32 := Memref.whole cc0_scratch4
abbrev scM0_5 : Memref sig .tc .vmem S8x8960 .f32 := Memref.whole cc0_scratch5
/-- The scratch `arg12` the kernel carries between points, as a view: what it holds is stated through it. -/
abbrev VS0_0 : View sig .tc .vmem S512x1536 .fp8e4m3 := scM0_0.view
/-- The scratch `arg13` the kernel carries between points, as a view: what it holds is stated through it. -/
abbrev VS0_1 : View sig .tc .vmem S512x128 .f32 := scM0_1.view
/-- The scratch `arg17` the kernel carries between points, as a view: what it holds is stated through it. -/
abbrev VS0_5 : View sig .tc .vmem S8x8960 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.Prog.lean ====
/- The two branches of the kernel body, each as a program of its own. -/
module

public import proofs.«01_k».proof.Proof.Base

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The region under the first branch: at the first point the maxima are zeroed, the scale of the second result
    stored and the first block of rows quantised. -/
noncomputable def pro (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (v33 : FVec F S1x256 .f32) (v39 : FVec F S255x1x256 .f32) :
    Prog (TpuEff nD τ sig (Elt F) Λ₀ .tc) PUnit := do
  if k0_h1 : k0_cond1 i = 1#1 then do
    let ⟨v3722, v3750, v3752, c23_i32_2001⟩ : Σ' (v3722 : FVec F S32x1536 .f32) (v3750 : IVec S32x128 32) (v3752 : IVec S32x128 32), BitVec 32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay102 v33 v39)
    let ⟨v3776, v3793, c1_i32_2017, v3794⟩ : Σ' (v3776 : FVec F S32x1536 .f32) (v3793 : IVec S255x32x128 1) (c1_i32_2017 : BitVec 32), IVec S255x32x128 32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3722 v3750 v3752 c23_i32_2001
    let ⟨v3830, v3835⟩ : Σ' (v3830 : FVec F S32x1536 .f32), FVec F S32x128 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3776 v3793 c1_i32_2017 v3794
    let v3877 : FVec F S32x1536 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3830 v3835
    let ⟨v3884, v3917, v3919⟩ : Σ' (v3884 : FVec F S32x1536 .f32) (v3917 : FVec F S32x128 .f32), IVec S32x128 32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3877
    let ⟨v3938, v3959, v3960⟩ : Σ' (v3938 : FVec F S32x1536 .f32) (v3959 : IVec S32x128 32), IVec S32x128 32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3884 v3917 v3919
    let ⟨v3992, v3999, v4000, v4001⟩ : Σ' (v3992 : FVec F S32x1536 .f32) (v3999 : FVec F S32x128 .f32) (v4000 : IVec S255x32x128 32), IVec S255x32x128 32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3938 v3959 v3960
    let v4043 : FVec F S32x1536 .fp8e4m3 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3992 v3999 v4000 v4001
    let ⟨v4046, v4079, v4084⟩ : Σ' (v4046 : FVec F S32x1536 .f32) (v4079 : FVec F S32x128 .f32), FVec F S32x128 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4043
    let ⟨v4100, v4121, v4126, c126_i32_2153⟩ : Σ' (v4100 : FVec F S32x1536 .f32) (v4121 : IVec S32x128 32) (v4126 : IVec S32x128 1), BitVec 32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4046 v4079 v4084
    let ⟨v4154, v4167, v4168⟩ : Σ' (v4154 : FVec F S32x1536 .f32) (v4167 : FVec F S255x32x128 .f32), FVec F S32x128 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4100 v4121 v4126 c126_i32_2153
    let v4208 : FVec F S32x1536 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4154 v4167 v4168
    let v4251 : FVec F S32x1536 .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4208
    let ⟨v4262, v4290, v4292, c23_i32_2221⟩ : Σ' (v4262 : FVec F S32x1536 .f32) (v4290 : IVec S32x128 32) (v4292 : IVec S32x128 32), BitVec 32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4251
    let ⟨v4316, v4333, c1_i32_2237, v4334⟩ : Σ' (v4316 : FVec F S32x1536 .f32) (v4333 : IVec S255x32x128 1) (c1_i32_2237 : BitVec 32), IVec S255x32x128 32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4262 v4290 v4292 c23_i32_2221
    let ⟨v4370, v4375⟩ : Σ' (v4370 : FVec F S32x1536 .f32), FVec F S32x128 .f32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4316 v4333 c1_i32_2237 v4334
    let v4417 : FVec F S32x1536 .f32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4370 v4375
    let ⟨v4424, v4457, v4459⟩ : Σ' (v4424 : FVec F S32x1536 .f32) (v4457 : FVec F S32x128 .f32), IVec S32x128 32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4417
    let ⟨v4478, v4499, v4500⟩ : Σ' (v4478 : FVec F S32x1536 .f32) (v4499 : IVec S32x128 32), IVec S32x128 32 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4424 v4457 v4459
    let ⟨v4532, v4539, v4540, v4541⟩ : Σ' (v4532 : FVec F S32x1536 .f32) (v4539 : FVec F S32x128 .f32) (v4540 : IVec S255x32x128 32), IVec S255x32x128 32 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4478 v4499 v4500
    let v4583 : FVec F S32x1536 .fp8e4m3 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4532 v4539 v4540 v4541
    Prog.lift (.store arg12 (Rect.unit (s := S512x1536) ![480, 0] S32x1536.size inb_S512x1536_S32x1536_480_0) v4583 Finset.univ (View.stores_vmem h_S32x1536 (harg12.storeExact_slice rfl _ packedfp8e4m3_S512x1536_S32x1536_480_0) (fun _ => rfl)) (.inl rfl))
    pure ⟨⟩
  else do
    pure ⟨⟩

/-- The region under the second branch: at the last point the largest of the maxima and all the scale rows are stored. -/
noncomputable def epi (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) :
    Prog (TpuEff nD τ sig (Elt F) Λ₀ .tc) PUnit := do
  if k0_h2 : k0_cond2 i = 1#1 then do
    let v4357 : Vec F S1x128 .f32 ← k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    let v4358 : Vec F S1x128 .f32 ← Prog.lift (.load arg11 (Rect.unit (s := S20x2048) ![19, 1792] S1x128.size inb_S20x2048_S1x128_19_1792).toLoadRect (View.loadsAt_vmem h_S1x128))
    Prog.lift (.store arg11 (Rect.unit (s := S20x2048) ![19, 1792] S1x128.size inb_S20x2048_S1x128_19_1792) v4357 Finset.univ (View.stores_vmem_bits_univ h_S1x128 rfl) (.inl rfl))
    let v4359 : Vec F S1x128 .f32 ← Prog.lift (.load arg16 (Rect.unit (s := S320x128) ![319, 0] S1x128.size inb_S320x128_S1x128_319_0).toLoadRect (View.loadsAt_vmem h_S1x128))
    let v4360 : Vec F S1x128 .f32 ← Prog.lift (.load arg11 (Rect.unit (s := S20x2048) ![19, 1920] S1x128.size inb_S20x2048_S1x128_19_1920).toLoadRect (View.loadsAt_vmem h_S1x128))
    Prog.lift (.store arg11 (Rect.unit (s := S20x2048) ![19, 1920] S1x128.size inb_S20x2048_S1x128_19_1920) v4359 Finset.univ (View.stores_vmem_bits_univ h_S1x128 rfl) (.inl rfl))
    pure ⟨⟩
  else do
    pure ⟨⟩

end Cert.KernelIdeal.Gen
-- ==== Proof.ProRun.lean ====
/- The run of the region under the first branch. -/
module

public import proofs.«01_k».proof.Proof.Prog

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6000000 in
/-- What the region under the first branch stores, as pieces (last first), with its triple. -/
noncomputable def proRun (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (v33 : FVec F S1x256 .f32) (v39 : FVec F S255x1x256 .f32)
    (hc0 : k0_cond1 i = 1#1) (x2 : Vec F S512x1536 .bf16) (x8 : Vec F S1x1 .f32) (x12 : Vec F S512x1536 .fp8e4m3) (x13 : Vec F S512x128 .f32) (x17 : Vec F S8x8960 .f32) :
    Σ' (L8 : List (View.Piece (Elt F) S1x1 .f32)), Σ' (L12 : List (View.Piece (Elt F) S512x1536 .fp8e4m3)), Σ' (L13 : List (View.Piece (Elt F) S512x128 .f32)), { L17 : List (View.Piece (Elt F) S8x8960 .f32) //
      ∀ (E : Set ℕ) (K : PUnit → sProp 𝕄),
        iprop(owns (c : Thread nD τ) arg2 fullShare x2 ∗ owns (c : Thread nD τ) arg8 fullShare x8 ∗ owns (c : Thread nD τ) arg12 fullShare x12 ∗ owns (c : Thread nD τ) arg13 fullShare x13 ∗ owns (c : Thread nD τ) arg17 fullShare x17
            ∗ (iprop(owns (c : Thread nD τ) arg2 fullShare x2 ∗ (∃ f, arg8.view.loc (c : Thread nD τ) ↦[arg8.view.set]{fullShare} arg8.view.writes (Elt F) f L8) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg17.view.loc (c : Thread nD τ) ↦[arg17.view.set]{fullShare} arg17.view.writes (Elt F) f L17)) -∗ K ⟨⟩))
          ⊢ wp frame (wpE (defs₀ (F := F)) Variants.none c none) E (pro i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v33 v39) K } := by
  refine ⟨?_, ?_, ?_, ?_, fun E K => ?run⟩
  case run =>
    unfold pro
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f2, %hf2, H2⟩, ⟨%f8, %hf8, H8⟩, ⟨%f12, %hf12, H12⟩, ⟨%f13, %hf13, H13⟩, ⟨%f17, %hf17, H17⟩, Hk⟩
    obtain rfl := harg2.eq_unread hf2; obtain rfl := harg8.eq_unread hf8; obtain rfl := harg12.eq_unread hf12; obtain rfl := harg13.eq_unread hf13; obtain rfl := harg17.eq_unread hf17
    sl_exec (disch := first | sl_exact hc0)
    sl_step
    iapply Hk
    isplitl [H2]
    · iexists _; isplitr; · ipureintro; exact harg2.read_unread _
      iexact H2
    isplitl [H8]; · iexists _; iexact H8
    isplitl [H12]; · iexists _; iexact H12
    isplitl [H13]; · iexists _; iexact H13
    iexists _; iexact H17

end Cert.KernelIdeal.Gen
-- ==== Proof.EpiRun.lean ====
/- The run of the region under the second branch. -/
module

public import proofs.«01_k».proof.Proof.Prog

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 9000000 in
/-- What the region under the second branch stores, as pieces (last first), with its triple. -/
noncomputable def epiRun (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc1 : k0_cond2 i = 1#1) (x9 : Vec F S1x1 .f32) (x11 : Vec F S20x2048 .f32) (x16 : Vec F S320x128 .f32) (x17 : Vec F S8x8960 .f32) :
    Σ' (L9 : List (View.Piece (Elt F) S1x1 .f32)), { L11 : List (View.Piece (Elt F) S20x2048 .f32) //
      ∀ (E : Set ℕ) (K : PUnit → sProp 𝕄),
        iprop(owns (c : Thread nD τ) arg9 fullShare x9 ∗ owns (c : Thread nD τ) arg11 fullShare x11 ∗ owns (c : Thread nD τ) arg16 fullShare x16 ∗ owns (c : Thread nD τ) arg17 fullShare x17
            ∗ (iprop(owns (c : Thread nD τ) arg16 fullShare x16 ∗ owns (c : Thread nD τ) arg17 fullShare x17 ∗ (∃ f, arg9.view.loc (c : Thread nD τ) ↦[arg9.view.set]{fullShare} arg9.view.writes (Elt F) f L9) ∗ (∃ f, arg11.view.loc (c : Thread nD τ) ↦[arg11.view.set]{fullShare} arg11.view.writes (Elt F) f L11)) -∗ K ⟨⟩))
          ⊢ wp frame (wpE (defs₀ (F := F)) Variants.none c none) E (epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    unfold epi
    simp only [k0_part59_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f9, %hf9, H9⟩, ⟨%f11, %hf11, H11⟩, ⟨%f16, %hf16, H16⟩, ⟨%f17, %hf17, H17⟩, Hk⟩
    obtain rfl := harg9.eq_unread hf9; obtain rfl := harg11.eq_unread hf11; obtain rfl := harg16.eq_unread hf16; obtain rfl := harg17.eq_unread hf17
    sl_exec (disch := first | sl_exact hc1)
    sl_step
    iapply Hk
    isplitl [H16]
    · iexists _; isplitr; · ipureintro; exact harg16.read_unread _
      iexact H16
    isplitl [H17]
    · iexists _; isplitr; · ipureintro; exact harg17.read_unread _
      iexact H17
    isplitl [H9]; · iexists _; iexact H9
    iexists _; iexact H11

end Cert.KernelIdeal.Gen
-- ==== Proof.Core.lean ====
/- The kernel body as a program that calls its two branches. -/
module

public import proofs.«01_k».proof.Proof.Prog

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The part of the body with the first branch, which it calls. -/
noncomputable def part61Pro (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (arg0 : BitVec 32) (v33 : FVec F S1x256 .f32) (v39 : FVec F S255x1x256 .f32) :
    Prog (TpuEff nD τ sig (Elt F) Λ₀ .tc) (Σ' (v64 : FVec F S1x256 .f32) (v69 : BitVec 32), FVec F S512x256 .f32) := do
  pro i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v33 v39
  let v68 : BitVec 32 := Scalar.muli arg0 2#32
  let v69 : BitVec 32 := Scalar.muli v68 4#32
  let v70 : Vec F S512x1536 .fp8e4m3 ← Prog.lift (.load arg12 (Rect.unit (s := S512x1536) ![0, 0] S512x1536.size inb_S512x1536_S512x1536_0_0).toLoadRect (View.loadsAt_vmem h_S512x1536))
  let v71 : Vec F S1536x256 .fp8e4m3 ← Prog.lift (.load arg5 (Rect.unit (s := S1536x8960) ![0, 0] S1536x256.size inb_S1536x8960_S1536x256_0_0).toLoadRect (View.loadsAt_vmem h_S1536x256))
  let v73 : Vec F S512x128 .f32 ← Prog.lift (.load arg13 (Rect.unit (s := S512x128) ![0, 0] S512x128.size inb_S512x128_S512x128_0_0).toLoadRect (View.loadsAt_vmem h_S512x128))
  pure ⟨k0_pay103 v33 v39, v69, k0_pay104 v70 v71 v73⟩

/-- The whole body, the second branch called at its end. -/
noncomputable def ccEpi (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) :
    Prog (TpuEff nD τ sig (Elt F) Λ₀ .tc) PUnit := do
  let ⟨arg0, v64, v1891, v2232, v2233⟩ : Σ' (arg0 : BitVec 32) (v64 : FVec F S1x256 .f32) (v1891 : BitVec 32) (v2232 : FVec F S32x1536 .fp8e4m3), Vec F S32x1536 .fp8e4m3 ← k0_part159 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  let ⟨v3670, v3695⟩ : Σ' (v3670 : IVec S128x128 1), FVec F S1x128 .f32 ← k0_part160 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v64 v1891 v2232 v2233
  let v3698 : Vec F S1x128 .f32 ← Prog.lift (.load arg16 (Rect.unit (s := S320x128) (k0_off2 i 2#32) S1x128.size (k0_off2_inb i 2)).toLoadRect (View.loadsAt_vmem h_S1x128))
  Prog.lift (.store arg16 (Rect.unit (s := S320x128) (k0_off2 i 2#32) S1x128.size (k0_off2_inb i 2)) (k0_pay1 v3695) Finset.univ (View.stores_vmem_bits_univ h_S1x128 rfl) (.inl rfl))
  let v3701 : Vec F S128x128 .f32 ← Prog.lift (.load arg15 (Rect.unit (s := S512x128) ![384, 0] S128x128.size inb_S512x128_S128x128_384_0).toLoadRect (View.loadsAt_vmem h_S128x128))
  let v3708 : Vec F S1x128 .f32 ← Prog.lift (.load arg16 (Rect.unit (s := S320x128) (k0_off2 i 3#32) S1x128.size (k0_off2_inb i 3)).toLoadRect (View.loadsAt_vmem h_S1x128))
  Prog.lift (.store arg16 (Rect.unit (s := S320x128) (k0_off2 i 3#32) S1x128.size (k0_off2_inb i 3)) (k0_pay2 v3670 v3701) Finset.univ (View.stores_vmem_bits_univ h_S1x128 rfl) (.inl rfl))
  epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17

set_option maxHeartbeats 2000000 in
theorem part61_eq (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (arg0 : BitVec 32) (v33 : FVec F S1x256 .f32) (v39 : FVec F S255x1x256 .f32) :
    k0_part61 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v33 v39 = part61Pro i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v33 v39 := by
  rw [k0_part61_eq_skeleton]
  unfold k0_part61_skel part61Pro pro
  by_cases h : k0_cond1 i = 1#1
  · simp only [dif_pos h, bind_assoc, pure_bind]
  · simp only [dif_neg h, bind_assoc, pure_bind]

set_option maxHeartbeats 2000000 in
theorem ccEpi_eq (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) : cc0_fp8_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = ccEpi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  rw [cc0_fp8_linear_eq_skeleton]
  unfold cc0_fp8_linear_skel ccEpi epi
  by_cases h : k0_cond2 i = 1#1
  · simp only [dif_pos h, bind_assoc, pure_bind]
  · simp only [dif_neg h, bind_assoc, pure_bind]

end Cert.KernelIdeal.Gen
-- ==== Proof.MainRun.lean ====
/- The run of the kernel body. -/
module

public import proofs.«01_k».proof.Proof.Core

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The vector that the body makes of the sixteen numbers of the history. -/
noncomputable def histVec (arg1 : Memref sig Kind.tc Space.smem S16 .f32) (harg1 : arg1.IsWhole) (x1 : Vec F S16 .f32) : FVec F S1x256 .f32 :=
  k0_pay99 (View.readAt (Elt F) arg1.view (Rect.unit (s := S16) ![0] S1.size inb_S16_S1_0).toLoadRect (harg1.unread x1) (Shape.Idx.first (by decide))) (View.readAt (Elt F) arg1.view (Rect.unit (s := S16) ![1] S1.size inb_S16_S1_1).toLoadRect (harg1.unread x1) (Shape.Idx.first (by decide))) (View.readAt (Elt F) arg1.view (Rect.unit (s := S16) ![2] S1.size inb_S16_S1_2).toLoadRect (harg1.unread x1) (Shape.Idx.first (by decide))) (View.readAt (Elt F) arg1.view (Rect.unit (s := S16) ![3] S1.size inb_S16_S1_3).toLoadRect (harg1.unread x1) (Shape.Idx.first (by decide))) (View.readAt (Elt F) arg1.view (Rect.unit (s := S16) ![4] S1.size inb_S16_S1_4).toLoadRect (harg1.unread x1) (Shape.Idx.first (by decide))) (View.readAt (Elt F) arg1.view (Rect.unit (s := S16) ![5] S1.size inb_S16_S1_5).toLoadRect (harg1.unread x1) (Shape.Idx.first (by decide))) (View.readAt (Elt F) arg1.view (Rect.unit (s := S16) ![6] S1.size inb_S16_S1_6).toLoadRect (harg1.unread x1) (Shape.Idx.first (by decide))) (View.readAt (Elt F) arg1.view (Rect.unit (s := S16) ![7] S1.size inb_S16_S1_7).toLoadRect (harg1.unread x1) (Shape.Idx.first (by decide))) (View.readAt (Elt F) arg1.view (Rect.unit (s := S16) ![8] S1.size inb_S16_S1_8).toLoadRect (harg1.unread x1) (Shape.Idx.first (by decide))) (View.readAt (Elt F) arg1.view (Rect.unit (s := S16) ![9] S1.size inb_S16_S1_9).toLoadRect (harg1.unread x1) (Shape.Idx.first (by decide))) (View.readAt (Elt F) arg1.view (Rect.unit (s := S16) ![10] S1.size inb_S16_S1_10).toLoadRect (harg1.unread x1) (Shape.Idx.first (by decide))) (View.readAt (Elt F) arg1.view (Rect.unit (s := S16) ![11] S1.size inb_S16_S1_11).toLoadRect (harg1.unread x1) (Shape.Idx.first (by decide))) (View.readAt (Elt F) arg1.view (Rect.unit (s := S16) ![12] S1.size inb_S16_S1_12).toLoadRect (harg1.unread x1) (Shape.Idx.first (by decide))) (View.readAt (Elt F) arg1.view (Rect.unit (s := S16) ![13] S1.size inb_S16_S1_13).toLoadRect (harg1.unread x1) (Shape.Idx.first (by decide))) (View.readAt (Elt F) arg1.view (Rect.unit (s := S16) ![14] S1.size inb_S16_S1_14).toLoadRect (harg1.unread x1) (Shape.Idx.first (by decide))) (View.readAt (Elt F) arg1.view (Rect.unit (s := S16) ![15] S1.size inb_S16_S1_15).toLoadRect (harg1.unread x1) (Shape.Idx.first (by decide)))

set_option maxHeartbeats 9000000 in
/-- What the body stores between its branches, as pieces (last first), with its triple: the first branch is taken as a
    step from the buffers' contents `d` to contents `x` (`hpro`), the second is what is left to run. -/
noncomputable def mainRun (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (x1 : Vec F S16 .f32) (x2 : Vec F S512x1536 .bf16) (x3 : Vec F S512x1536 .bf16) (x4 : Vec F S512x1536 .bf16) (x5 : Vec F S1536x8960 .fp8e4m3) (x6 : Vec F S1x8960 .f32) (x7 : Vec F S1024x8960 .fp8e4m3) (x8 : Vec F S1x1 .f32) (x9 : Vec F S1x1 .f32) (x10 : Vec F S1024x1536 .fp8e4m3) (x11 : Vec F S20x2048 .f32) (x12 : Vec F S512x1536 .fp8e4m3) (x13 : Vec F S512x128 .f32) (x14 : Vec F S512x1536 .fp8e4m3) (x15 : Vec F S512x128 .f32) (x16 : Vec F S320x128 .f32) (x17 : Vec F S8x8960 .f32) (d8 : Vec F S1x1 .f32) (d12 : Vec F S512x1536 .fp8e4m3) (d13 : Vec F S512x128 .f32) (d17 : Vec F S8x8960 .f32) :
    Σ' (L7 : List (View.Piece (Elt F) S1024x8960 .fp8e4m3)), Σ' (L10 : List (View.Piece (Elt F) S1024x1536 .fp8e4m3)), Σ' (L12 : List (View.Piece (Elt F) S512x1536 .fp8e4m3)), Σ' (L13 : List (View.Piece (Elt F) S512x128 .f32)), Σ' (L14 : List (View.Piece (Elt F) S512x1536 .fp8e4m3)), Σ' (L15 : List (View.Piece (Elt F) S512x128 .f32)), Σ' (L17 : List (View.Piece (Elt F) S8x8960 .f32)), { f16 : arg16.view.ty.Contents (Elt F) //
      ∀ (E : Set ℕ) (K : PUnit → sProp 𝕄)
        (hpro : ∀ (Q : PUnit → sProp 𝕄), iprop(owns (c : Thread nD τ) arg2 fullShare x2 ∗ owns (c : Thread nD τ) arg8 fullShare d8 ∗ owns (c : Thread nD τ) arg12 fullShare d12 ∗ owns (c : Thread nD τ) arg13 fullShare d13 ∗ owns (c : Thread nD τ) arg17 fullShare d17 ∗ (iprop(owns (c : Thread nD τ) arg2 fullShare x2 ∗ owns (c : Thread nD τ) arg8 fullShare x8 ∗ owns (c : Thread nD τ) arg12 fullShare x12 ∗ owns (c : Thread nD τ) arg13 fullShare x13 ∗ owns (c : Thread nD τ) arg17 fullShare x17) -∗ Q ⟨⟩))
          ⊢ wp frame (wpE (defs₀ (F := F)) Variants.none c none) E (pro i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (histVec arg1 harg1 x1) k0_pay100) Q),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare d8 ∗ owns (c : Thread nD τ) arg9 fullShare x9 ∗ owns (c : Thread nD τ) arg10 fullShare x10 ∗ owns (c : Thread nD τ) arg11 fullShare x11 ∗ owns (c : Thread nD τ) arg12 fullShare d12 ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare d17
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare x8 ∗ owns (c : Thread nD τ) arg9 fullShare x9 ∗ owns (c : Thread nD τ) arg11 fullShare x11 ∗ (∃ f, arg7.view.loc (c : Thread nD τ) ↦[arg7.view.set]{fullShare} arg7.view.writes (Elt F) f L7) ∗ (∃ f, arg10.view.loc (c : Thread nD τ) ↦[arg10.view.set]{fullShare} arg10.view.writes (Elt F) f L10) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17) ∗ arg16.view.loc (c : Thread nD τ) ↦[arg16.view.set]{fullShare} f16) -∗ wp frame (wpE (defs₀ (F := F)) Variants.none c none) E (epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K))
          ⊢ wp frame (wpE (defs₀ (F := F)) Variants.none c none) E (cc0_fp8_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K hpro => ?run⟩
  case run =>
    rw [ccEpi_eq]; unfold ccEpi
    simp only [k0_part159_eq_skeleton]
    unfold k0_part159_skel
    simp only [part61_eq, k0_part60_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part160_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton]
    unfold part61Pro
    generalize pro (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = P at hpro ⊢
    generalize epi (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = Ep
    unfold owns at hpro ⊢
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec
    rw [bind_assoc, bind_assoc, wp_bind]
    iapply (hpro _)
    isplitl [H2]
    · iexists _; isplitr; · ipureintro; exact harg2.read_unread _
      iexact H2
    isplitl [H8]
    · iexists _; isplitr; · ipureintro; exact harg8.read_unread _
      iexact H8
    isplitl [H12]
    · iexists _; isplitr; · ipureintro; exact harg12.read_unread _
      iexact H12
    isplitl [H13]
    · iexists _; isplitr; · ipureintro; exact harg13.read_unread _
      iexact H13
    isplitl [H17]
    · iexists _; isplitr; · ipureintro; exact harg17.read_unread _
      iexact H17
    iintro ⟨⟨%g2, %hg2, H2⟩, ⟨%g8, %hg8, H8⟩, ⟨%g12, %hg12, H12⟩, ⟨%g13, %hg13, H13⟩, ⟨%g17, %hg17, H17⟩⟩
    obtain rfl := harg2.eq_unread hg2; obtain rfl := harg8.eq_unread hg8; obtain rfl := harg12.eq_unread hg12; obtain rfl := harg13.eq_unread hg13; obtain rfl := harg17.eq_unread hg17
    sl_exec
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]
    · iexists _; isplitr; · ipureintro; exact harg8.read_unread _
      iexact H8
    isplitl [H9]
    · iexists _; isplitr; · ipureintro; exact harg9.read_unread _
      iexact H9
    isplitl [H11]
    · iexists _; isplitr; · ipureintro; exact harg11.read_unread _
      iexact H11
    isplitl [H7]; · iexists _; iexact H7
    isplitl [H10]; · iexists _; iexact H10
    isplitl [H12]; · iexists _; iexact H12
    isplitl [H13]; · iexists _; iexact H13
    isplitl [H14]; · iexists _; iexact H14
    isplitl [H15]; · iexists _; iexact H15
    isplitl [H17]; · iexists _; iexact H17
    iexact H16

end Cert.KernelIdeal.Gen
-- ==== Proof.Canon.lean ====
/- The pieces that the runs leave, in closed form. -/
module

import all proofs.«01_k».proof.Proof.ProRun
import all proofs.«01_k».proof.Proof.EpiRun
import all proofs.«01_k».proof.Proof.MainRun
public import proofs.«01_k».proof.Proof.ProRun
public import proofs.«01_k».proof.Proof.EpiRun
public import proofs.«01_k».proof.Proof.MainRun

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The lists of pieces that the runs leave, written once each as a map over the tile numbers. -/

set_option maxHeartbeats 4000000

/-- Where column tile `j` of the rows from `o` lies in the first output. -/
theorem inb7 (o : ℕ) (ho : o + 512 ≤ 1024) (j : Fin 35) (a : Fin 2) : (![o, 256 * j.val] : Fin 2 → ℕ) a + S512x256.size a ≤ S1024x8960.size a := by
  have hj := j.isLt
  fin_cases a
  · show o + 512 ≤ 1024; omega
  · show 256 * j.val + 256 ≤ 8960; omega
theorem inb5 (j : Fin 35) (a : Fin 2) : (![0, 256 * j.val] : Fin 2 → ℕ) a + S1536x256.size a ≤ S1536x8960.size a := by
  have hj := j.isLt
  fin_cases a
  · show 0 + 1536 ≤ 1536; omega
  · show 256 * j.val + 256 ≤ 8960; omega
theorem inb6 (j : Fin 35) (a : Fin 2) : (![0, 256 * j.val] : Fin 2 → ℕ) a + S1x256.size a ≤ S1x8960.size a := by
  have hj := j.isLt
  fin_cases a
  · show 0 + 1 ≤ 1; omega
  · show 256 * j.val + 256 ≤ 8960; omega
theorem inb17 (j : Fin 35) (a : Fin 2) : (![0, 256 * j.val] : Fin 2 → ℕ) a + S8x256.size a ≤ S8x8960.size a := by
  have hj := j.isLt
  fin_cases a
  · show 0 + 8 ≤ 8; omega
  · show 256 * j.val + 256 ≤ 8960; omega
theorem inbQ (j : Fin 16) (a : Fin 2) : (![32 * j.val, 0] : Fin 2 → ℕ) a + S32x1536.size a ≤ S512x1536.size a := by
  have hj := j.isLt
  fin_cases a
  · show 32 * j.val + 32 ≤ 512; omega
  · show 0 + 1536 ≤ 1536; omega
theorem inbS (j : Fin 16) (a : Fin 2) : (![32 * j.val, 0] : Fin 2 → ℕ) a + S32x128.size a ≤ S512x128.size a := by
  have hj := j.isLt
  fin_cases a
  · show 32 * j.val + 32 ≤ 512; omega
  · show 0 + 128 ≤ 128; omega
theorem inbD (j : Fin 4) (a : Fin 2) : (![128 * j.val, 0] : Fin 2 → ℕ) a + S128x128.size a ≤ S512x128.size a := by
  have hj := j.isLt
  fin_cases a
  · show 128 * j.val + 128 ≤ 512; omega
  · show 0 + 128 ≤ 128; omega
theorem inb11 (j : Fin 320) (a : Fin 2) : (![j.val / 16, 128 * (j.val % 16)] : Fin 2 → ℕ) a + S1x128.size a ≤ S20x2048.size a := by
  have hj := j.isLt
  fin_cases a
  · show j.val / 16 + 1 ≤ 20; omega
  · show 128 * (j.val % 16) + 128 ≤ 2048; omega
theorem inb16 (j : Fin 320) (a : Fin 2) : (![j.val, 0] : Fin 2 → ℕ) a + S1x128.size a ≤ S320x128.size a := by
  have hj := j.isLt
  fin_cases a
  · show j.val + 1 ≤ 320; omega
  · show 0 + 128 ≤ 128; omega

/-- The tile numbers, last first. -/
def tiles35 : List (Fin 35) := [⟨34, by decide⟩, ⟨33, by decide⟩, ⟨32, by decide⟩, ⟨31, by decide⟩, ⟨30, by decide⟩, ⟨29, by decide⟩, ⟨28, by decide⟩, ⟨27, by decide⟩, ⟨26, by decide⟩, ⟨25, by decide⟩, ⟨24, by decide⟩, ⟨23, by decide⟩, ⟨22, by decide⟩, ⟨21, by decide⟩, ⟨20, by decide⟩, ⟨19, by decide⟩, ⟨18, by decide⟩, ⟨17, by decide⟩, ⟨16, by decide⟩, ⟨15, by decide⟩, ⟨14, by decide⟩, ⟨13, by decide⟩, ⟨12, by decide⟩, ⟨11, by decide⟩, ⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩]
/-- The tile numbers, last first. -/
def tiles16 : List (Fin 16) := [⟨15, by decide⟩, ⟨14, by decide⟩, ⟨13, by decide⟩, ⟨12, by decide⟩, ⟨11, by decide⟩, ⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩]

/-- Column tile `j` of the weights. -/
def wTile (arg5 : Memref sig Kind.tc Space.vmem S1536x8960 .fp8e4m3) (harg5 : arg5.IsWhole) (x5 : Vec F S1536x8960 .fp8e4m3) (j : Fin 35) : Vec F S1536x256 .fp8e4m3 :=
  View.readAt (Elt F) arg5.view (Rect.unit (s := S1536x8960) ![0, 256 * j.val] S1536x256.size (inb5 j)).toLoadRect (harg5.unread x5)
/-- Column tile `j` of the weights' scales. -/
def wsTile (arg6 : Memref sig Kind.tc Space.vmem S1x8960 .f32) (harg6 : arg6.IsWhole) (x6 : Vec F S1x8960 .f32) (j : Fin 35) : Vec F S1x256 .f32 :=
  View.readAt (Elt F) arg6.view (Rect.unit (s := S1x8960) ![0, 256 * j.val] S1x256.size (inb6 j)).toLoadRect (harg6.unread x6)
/-- Rows `32 j …` of a block. -/
def rTile (m : Memref sig Kind.tc Space.vmem S512x1536 .bf16) (hm : m.IsWhole) (x : Vec F S512x1536 .bf16) (j : Fin 16) : Vec F S32x1536 .bf16 :=
  View.readAt (Elt F) m.view (Rect.unit (s := S512x1536) ![32 * j.val, 0] S32x1536.size (inbQ j)).toLoadRect (hm.unread x)

/-- The codes of a block, 32 rows a piece. -/
def LC (m : Memref sig Kind.tc Space.vmem S512x1536 .bf16) (hm : m.IsWhole) (x : Vec F S512x1536 .bf16) : List (View.Piece (Elt F) S512x1536 .fp8e4m3) :=
  tiles16.map fun j => ⟨Rect.unit (s := S512x1536) ![32 * j.val, 0] S32x1536.size (inbQ j), k0_pay120 (k0_pay115 (rTile m hm x j)) (k0_pay118 (rTile m hm x j))⟩
/-- The scales of a block, 32 rows a piece. -/
def LS (m : Memref sig Kind.tc Space.vmem S512x1536 .bf16) (hm : m.IsWhole) (x : Vec F S512x1536 .bf16) : List (View.Piece (Elt F) S512x128 .f32) :=
  tiles16.map fun j => ⟨Rect.unit (s := S512x128) ![32 * j.val, 0] S32x128.size (inbS j), k0_pay119 (k0_pay117 (rTile m hm x j))⟩

/-- All of a buffer of codes, read back. -/
def rC (m : Memref sig Kind.tc Space.vmem S512x1536 .fp8e4m3) (L : List (View.Piece (Elt F) S512x1536 .fp8e4m3)) : Vec F S512x1536 .fp8e4m3 :=
  m.view.readCov L (Rect.unit (s := S512x1536) ![0, 0] S512x1536.size inb_S512x1536_S512x1536_0_0).toLoadRect
/-- All of a buffer of scales, read back. -/
def rS (m : Memref sig Kind.tc Space.vmem S512x128 .f32) (L : List (View.Piece (Elt F) S512x128 .f32)) : Vec F S512x128 .f32 :=
  m.view.readCov L (Rect.unit (s := S512x128) ![0, 0] S512x128.size inb_S512x128_S512x128_0_0).toLoadRect
/-- All of a buffer of codes. -/
def uC (m : Memref sig Kind.tc Space.vmem S512x1536 .fp8e4m3) (hm : m.IsWhole) (x : Vec F S512x1536 .fp8e4m3) : Vec F S512x1536 .fp8e4m3 :=
  View.readAt (Elt F) m.view (Rect.unit (s := S512x1536) ![0, 0] S512x1536.size inb_S512x1536_S512x1536_0_0).toLoadRect (hm.unread x)
/-- All of a buffer of scales. -/
def uS (m : Memref sig Kind.tc Space.vmem S512x128 .f32) (hm : m.IsWhole) (x : Vec F S512x128 .f32) : Vec F S512x128 .f32 :=
  View.readAt (Elt F) m.view (Rect.unit (s := S512x128) ![0, 0] S512x128.size inb_S512x128_S512x128_0_0).toLoadRect (hm.unread x)

/-- One half of the first output's pieces. -/
def L7h (wt : Fin 35 → Vec F S1536x256 .fp8e4m3) (wst : Fin 35 → Vec F S1x256 .f32) (y : FVec F S1x256 .f32)
    (xc : Vec F S512x1536 .fp8e4m3) (xs : Vec F S512x128 .f32) (o : ℕ) (ho : o + 512 ≤ 1024) (js : List (Fin 35)) : List (View.Piece (Elt F) S1024x8960 .fp8e4m3) :=
  js.map fun j => ⟨Rect.unit (s := S1024x8960) ![o, 256 * j.val] S512x256.size (inb7 o ho j), k0_pay477 y xc (wt j) xs (wst j)⟩

/-- The running maxima's first pieces: each takes the contents before. -/
def L17a (arg17 : Memref sig Kind.tc Space.vmem S8x8960 .f32) (harg17 : arg17.IsWhole) (x17 : Vec F S8x8960 .f32)
    (wt : Fin 35 → Vec F S1536x256 .fp8e4m3) (wst : Fin 35 → Vec F S1x256 .f32)
    (xc : Vec F S512x1536 .fp8e4m3) (xs : Vec F S512x128 .f32) (js : List (Fin 35)) : List (View.Piece (Elt F) S8x8960 .f32) :=
  js.map fun j => ⟨Rect.unit (s := S8x8960) ![0, 256 * j.val] S8x256.size (inb17 j), k0_pay537 xc (wt j) xs (wst j)
    (View.readAt (Elt F) arg17.view (Rect.unit (s := S8x8960) ![0, 256 * j.val] S8x256.size (inb17 j)).toLoadRect (harg17.unread x17))⟩
/-- The running maxima's later pieces, on top of `L`: each reads back what is there. -/
def L17b (arg17 : Memref sig Kind.tc Space.vmem S8x8960 .f32)
    (wt : Fin 35 → Vec F S1536x256 .fp8e4m3) (wst : Fin 35 → Vec F S1x256 .f32)
    (xc : Vec F S512x1536 .fp8e4m3) (xs : Vec F S512x128 .f32) (L : List (View.Piece (Elt F) S8x8960 .f32)) : List (Fin 35) → List (View.Piece (Elt F) S8x8960 .f32)
  | [] => L
  | j :: js => ⟨Rect.unit (s := S8x8960) ![0, 256 * j.val] S8x256.size (inb17 j), k0_pay537 xc (wt j) xs (wst j)
      (arg17.view.readCov (L17b arg17 wt wst xc xs L js) (Rect.unit (s := S8x8960) ![0, 256 * j.val] S8x256.size (inb17 j)).toLoadRect)⟩ :: L17b arg17 wt wst xc xs L js

/-- The rows of scales stored, last first. -/
def L16 (i : grid0.Coords) (arg13 : Memref sig Kind.tc Space.vmem S512x128 .f32) (harg13 : arg13.IsWhole) (x13 : Vec F S512x128 .f32)
    (arg15 : Memref sig Kind.tc Space.vmem S512x128 .f32) (L15 : List (View.Piece (Elt F) S512x128 .f32)) : List (View.Piece (Elt F) S320x128 .f32) :=
  ([⟨3, by decide⟩, ⟨2, by decide⟩, ⟨1, by decide⟩, ⟨0, by decide⟩] : List (Fin 4)).map (fun j => ⟨Rect.unit (s := S320x128) (k0_off2 i (BitVec.ofNat 32 j.val)) S1x128.size (k0_off2_inb i _), k0_pay322
      (arg15.view.readCov L15 (Rect.unit (s := S512x128) ![128 * j.val, 0] S128x128.size (inbD j)).toLoadRect)⟩) ++
  ([⟨3, by decide⟩, ⟨2, by decide⟩, ⟨1, by decide⟩, ⟨0, by decide⟩] : List (Fin 4)).map (fun j => ⟨Rect.unit (s := S320x128) (k0_off1 i (BitVec.ofNat 32 j.val)) S1x128.size (k0_off1_inb i _), k0_pay322
      (View.readAt (Elt F) arg13.view (Rect.unit (s := S512x128) ![128 * j.val, 0] S128x128.size (inbD j)).toLoadRect (harg13.unread x13))⟩)

theorem main7_eq (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (x1 : Vec F S16 .f32) (x2 : Vec F S512x1536 .bf16) (x3 : Vec F S512x1536 .bf16) (x4 : Vec F S512x1536 .bf16) (x5 : Vec F S1536x8960 .fp8e4m3) (x6 : Vec F S1x8960 .f32) (x7 : Vec F S1024x8960 .fp8e4m3) (x8 : Vec F S1x1 .f32) (x9 : Vec F S1x1 .f32) (x10 : Vec F S1024x1536 .fp8e4m3) (x11 : Vec F S20x2048 .f32) (x12 : Vec F S512x1536 .fp8e4m3) (x13 : Vec F S512x128 .f32) (x14 : Vec F S512x1536 .fp8e4m3) (x15 : Vec F S512x128 .f32) (x16 : Vec F S320x128 .f32) (x17 : Vec F S8x8960 .f32) (d8 : Vec F S1x1 .f32) (d12 : Vec F S512x1536 .fp8e4m3) (d13 : Vec F S512x128 .f32) (d17 : Vec F S8x8960 .f32) :
    (mainRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 x16 x17 d8 d12 d13 d17).1 = L7h (wTile arg5 harg5 x5) (wsTile arg6 harg6 x6) (k0_pay103 (histVec arg1 harg1 x1) k0_pay100) (rC arg14 (LC arg3 harg3 x3)) (rS arg15 (LS arg3 harg3 x3)) 512 (by decide) tiles35 ++ L7h (wTile arg5 harg5 x5) (wsTile arg6 harg6 x6) (k0_pay103 (histVec arg1 harg1 x1) k0_pay100) (uC arg12 harg12 x12) (uS arg13 harg13 x13) 0 (by decide) tiles35 := rfl

theorem main10_eq (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (x1 : Vec F S16 .f32) (x2 : Vec F S512x1536 .bf16) (x3 : Vec F S512x1536 .bf16) (x4 : Vec F S512x1536 .bf16) (x5 : Vec F S1536x8960 .fp8e4m3) (x6 : Vec F S1x8960 .f32) (x7 : Vec F S1024x8960 .fp8e4m3) (x8 : Vec F S1x1 .f32) (x9 : Vec F S1x1 .f32) (x10 : Vec F S1024x1536 .fp8e4m3) (x11 : Vec F S20x2048 .f32) (x12 : Vec F S512x1536 .fp8e4m3) (x13 : Vec F S512x128 .f32) (x14 : Vec F S512x1536 .fp8e4m3) (x15 : Vec F S512x128 .f32) (x16 : Vec F S320x128 .f32) (x17 : Vec F S8x8960 .f32) (d8 : Vec F S1x1 .f32) (d12 : Vec F S512x1536 .fp8e4m3) (d13 : Vec F S512x128 .f32) (d17 : Vec F S8x8960 .f32) :
    (mainRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 x16 x17 d8 d12 d13 d17).2.1 = [⟨Rect.unit (s := S1024x1536) ![512, 0] S512x1536.size inb_S1024x1536_S512x1536_512_0, rC arg14 (LC arg3 harg3 x3)⟩, ⟨Rect.unit (s := S1024x1536) ![0, 0] S512x1536.size inb_S1024x1536_S512x1536_0_0, uC arg12 harg12 x12⟩] := rfl

theorem main12_eq (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (x1 : Vec F S16 .f32) (x2 : Vec F S512x1536 .bf16) (x3 : Vec F S512x1536 .bf16) (x4 : Vec F S512x1536 .bf16) (x5 : Vec F S1536x8960 .fp8e4m3) (x6 : Vec F S1x8960 .f32) (x7 : Vec F S1024x8960 .fp8e4m3) (x8 : Vec F S1x1 .f32) (x9 : Vec F S1x1 .f32) (x10 : Vec F S1024x1536 .fp8e4m3) (x11 : Vec F S20x2048 .f32) (x12 : Vec F S512x1536 .fp8e4m3) (x13 : Vec F S512x128 .f32) (x14 : Vec F S512x1536 .fp8e4m3) (x15 : Vec F S512x128 .f32) (x16 : Vec F S320x128 .f32) (x17 : Vec F S8x8960 .f32) (d8 : Vec F S1x1 .f32) (d12 : Vec F S512x1536 .fp8e4m3) (d13 : Vec F S512x128 .f32) (d17 : Vec F S8x8960 .f32) :
    (mainRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 x16 x17 d8 d12 d13 d17).2.2.1 = LC arg4 harg4 x4 := rfl

theorem main13_eq (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (x1 : Vec F S16 .f32) (x2 : Vec F S512x1536 .bf16) (x3 : Vec F S512x1536 .bf16) (x4 : Vec F S512x1536 .bf16) (x5 : Vec F S1536x8960 .fp8e4m3) (x6 : Vec F S1x8960 .f32) (x7 : Vec F S1024x8960 .fp8e4m3) (x8 : Vec F S1x1 .f32) (x9 : Vec F S1x1 .f32) (x10 : Vec F S1024x1536 .fp8e4m3) (x11 : Vec F S20x2048 .f32) (x12 : Vec F S512x1536 .fp8e4m3) (x13 : Vec F S512x128 .f32) (x14 : Vec F S512x1536 .fp8e4m3) (x15 : Vec F S512x128 .f32) (x16 : Vec F S320x128 .f32) (x17 : Vec F S8x8960 .f32) (d8 : Vec F S1x1 .f32) (d12 : Vec F S512x1536 .fp8e4m3) (d13 : Vec F S512x128 .f32) (d17 : Vec F S8x8960 .f32) :
    (mainRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 x16 x17 d8 d12 d13 d17).2.2.2.1 = LS arg4 harg4 x4 := rfl

theorem main17_eq (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (x1 : Vec F S16 .f32) (x2 : Vec F S512x1536 .bf16) (x3 : Vec F S512x1536 .bf16) (x4 : Vec F S512x1536 .bf16) (x5 : Vec F S1536x8960 .fp8e4m3) (x6 : Vec F S1x8960 .f32) (x7 : Vec F S1024x8960 .fp8e4m3) (x8 : Vec F S1x1 .f32) (x9 : Vec F S1x1 .f32) (x10 : Vec F S1024x1536 .fp8e4m3) (x11 : Vec F S20x2048 .f32) (x12 : Vec F S512x1536 .fp8e4m3) (x13 : Vec F S512x128 .f32) (x14 : Vec F S512x1536 .fp8e4m3) (x15 : Vec F S512x128 .f32) (x16 : Vec F S320x128 .f32) (x17 : Vec F S8x8960 .f32) (d8 : Vec F S1x1 .f32) (d12 : Vec F S512x1536 .fp8e4m3) (d13 : Vec F S512x128 .f32) (d17 : Vec F S8x8960 .f32) :
    (mainRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 x16 x17 d8 d12 d13 d17).2.2.2.2.2.2.1 = L17b arg17 (wTile arg5 harg5 x5) (wsTile arg6 harg6 x6) (rC arg14 (LC arg3 harg3 x3)) (rS arg15 (LS arg3 harg3 x3)) (L17a arg17 harg17 x17 (wTile arg5 harg5 x5) (wsTile arg6 harg6 x6) (uC arg12 harg12 x12) (uS arg13 harg13 x13) tiles35) tiles35 := rfl

theorem main16_eq (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (x1 : Vec F S16 .f32) (x2 : Vec F S512x1536 .bf16) (x3 : Vec F S512x1536 .bf16) (x4 : Vec F S512x1536 .bf16) (x5 : Vec F S1536x8960 .fp8e4m3) (x6 : Vec F S1x8960 .f32) (x7 : Vec F S1024x8960 .fp8e4m3) (x8 : Vec F S1x1 .f32) (x9 : Vec F S1x1 .f32) (x10 : Vec F S1024x1536 .fp8e4m3) (x11 : Vec F S20x2048 .f32) (x12 : Vec F S512x1536 .fp8e4m3) (x13 : Vec F S512x128 .f32) (x14 : Vec F S512x1536 .fp8e4m3) (x15 : Vec F S512x128 .f32) (x16 : Vec F S320x128 .f32) (x17 : Vec F S8x8960 .f32) (d8 : Vec F S1x1 .f32) (d12 : Vec F S512x1536 .fp8e4m3) (d13 : Vec F S512x128 .f32) (d17 : Vec F S8x8960 .f32) :
    (mainRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 x16 x17 d8 d12 d13 d17).2.2.2.2.2.2.2.1 = arg16.view.writes (Elt F) (harg16.unread x16) (L16 i arg13 harg13 x13 arg15 (LS arg3 harg3 x3)) := rfl

theorem pro8_eq (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (v33 : FVec F S1x256 .f32) (v39 : FVec F S255x1x256 .f32) (hc0 : k0_cond1 i = 1#1) (x2 : Vec F S512x1536 .bf16) (x8 : Vec F S1x1 .f32) (x12 : Vec F S512x1536 .fp8e4m3) (x13 : Vec F S512x128 .f32) (x17 : Vec F S8x8960 .f32) :
    (proRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v33 v39 hc0 x2 x8 x12 x13 x17).1 = [⟨Rect.unit (s := S1x1) ![0, 0] S1x1.size inb_S1x1_S1x1_0_0, k0_pay4 (k0_pay102 v33 v39)⟩] := rfl

theorem pro12_eq (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (v33 : FVec F S1x256 .f32) (v39 : FVec F S255x1x256 .f32) (hc0 : k0_cond1 i = 1#1) (x2 : Vec F S512x1536 .bf16) (x8 : Vec F S1x1 .f32) (x12 : Vec F S512x1536 .fp8e4m3) (x13 : Vec F S512x128 .f32) (x17 : Vec F S8x8960 .f32) :
    (proRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v33 v39 hc0 x2 x8 x12 x13 x17).2.1 = LC arg2 harg2 x2 := rfl

theorem pro13_eq (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (v33 : FVec F S1x256 .f32) (v39 : FVec F S255x1x256 .f32) (hc0 : k0_cond1 i = 1#1) (x2 : Vec F S512x1536 .bf16) (x8 : Vec F S1x1 .f32) (x12 : Vec F S512x1536 .fp8e4m3) (x13 : Vec F S512x128 .f32) (x17 : Vec F S8x8960 .f32) :
    (proRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v33 v39 hc0 x2 x8 x12 x13 x17).2.2.1 = LS arg2 harg2 x2 := rfl

theorem pro17_eq (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (v33 : FVec F S1x256 .f32) (v39 : FVec F S255x1x256 .f32) (hc0 : k0_cond1 i = 1#1) (x2 : Vec F S512x1536 .bf16) (x8 : Vec F S1x1 .f32) (x12 : Vec F S512x1536 .fp8e4m3) (x13 : Vec F S512x128 .f32) (x17 : Vec F S8x8960 .f32) :
    (proRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v33 v39 hc0 x2 x8 x12 x13 x17).2.2.2.1 = [⟨Rect.unit (s := S8x8960) ![0, 0] S8x8960.size inb_S8x8960_S8x8960_0_0, k0_pay3⟩] := rfl

/-- Row `j` of the 320 rows of scales, as a piece of the last output. -/
def L11p (arg16 : Memref sig Kind.tc Space.vmem S320x128 .f32) (harg16 : arg16.IsWhole) (x16 : Vec F S320x128 .f32) (j : Fin 320) : View.Piece (Elt F) S20x2048 .f32 :=
  ⟨Rect.unit (s := S20x2048) ![j.val / 16, 128 * (j.val % 16)] S1x128.size (inb11 j),
    View.readAt (Elt F) arg16.view (Rect.unit (s := S320x128) ![j.val, 0] S1x128.size (inb16 j)).toLoadRect (harg16.unread x16)⟩

theorem epi9_eq (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc1 : k0_cond2 i = 1#1) (x9 : Vec F S1x1 .f32) (x11 : Vec F S20x2048 .f32) (x16 : Vec F S320x128 .f32) (x17 : Vec F S8x8960 .f32) :
    (epiRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x9 x11 x16 x17).1 = [⟨Rect.unit (s := S1x1) ![0, 0] S1x1.size inb_S1x1_S1x1_0_0, k0_pay98 (View.readAt (Elt F) arg17.view (Rect.unit (s := S8x8960) ![0, 0] S8x8960.size inb_S8x8960_S8x8960_0_0).toLoadRect (harg17.unread x17))⟩] := rfl

theorem epi11_eq (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc1 : k0_cond2 i = 1#1) (x9 : Vec F S1x1 .f32) (x11 : Vec F S20x2048 .f32) (x16 : Vec F S320x128 .f32) (x17 : Vec F S8x8960 .f32) :
    (epiRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x9 x11 x16 x17).2.1 = ([⟨319, by decide⟩, ⟨318, by decide⟩, ⟨317, by decide⟩, ⟨316, by decide⟩, ⟨315, by decide⟩, ⟨314, by decide⟩, ⟨313, by decide⟩, ⟨312, by decide⟩, ⟨311, by decide⟩, ⟨310, by decide⟩, ⟨309, by decide⟩, ⟨308, by decide⟩, ⟨307, by decide⟩, ⟨306, by decide⟩, ⟨305, by decide⟩, ⟨304, by decide⟩, ⟨303, by decide⟩, ⟨302, by decide⟩, ⟨301, by decide⟩, ⟨300, by decide⟩, ⟨299, by decide⟩, ⟨298, by decide⟩, ⟨297, by decide⟩, ⟨296, by decide⟩, ⟨295, by decide⟩, ⟨294, by decide⟩, ⟨293, by decide⟩, ⟨292, by decide⟩, ⟨291, by decide⟩, ⟨290, by decide⟩, ⟨289, by decide⟩, ⟨288, by decide⟩, ⟨287, by decide⟩, ⟨286, by decide⟩, ⟨285, by decide⟩, ⟨284, by decide⟩, ⟨283, by decide⟩, ⟨282, by decide⟩, ⟨281, by decide⟩, ⟨280, by decide⟩, ⟨279, by decide⟩, ⟨278, by decide⟩, ⟨277, by decide⟩, ⟨276, by decide⟩, ⟨275, by decide⟩, ⟨274, by decide⟩, ⟨273, by decide⟩, ⟨272, by decide⟩, ⟨271, by decide⟩, ⟨270, by decide⟩, ⟨269, by decide⟩, ⟨268, by decide⟩, ⟨267, by decide⟩, ⟨266, by decide⟩, ⟨265, by decide⟩, ⟨264, by decide⟩, ⟨263, by decide⟩, ⟨262, by decide⟩, ⟨261, by decide⟩, ⟨260, by decide⟩, ⟨259, by decide⟩, ⟨258, by decide⟩, ⟨257, by decide⟩, ⟨256, by decide⟩, ⟨255, by decide⟩, ⟨254, by decide⟩, ⟨253, by decide⟩, ⟨252, by decide⟩, ⟨251, by decide⟩, ⟨250, by decide⟩, ⟨249, by decide⟩, ⟨248, by decide⟩, ⟨247, by decide⟩, ⟨246, by decide⟩, ⟨245, by decide⟩, ⟨244, by decide⟩, ⟨243, by decide⟩, ⟨242, by decide⟩, ⟨241, by decide⟩, ⟨240, by decide⟩, ⟨239, by decide⟩, ⟨238, by decide⟩, ⟨237, by decide⟩, ⟨236, by decide⟩, ⟨235, by decide⟩, ⟨234, by decide⟩, ⟨233, by decide⟩, ⟨232, by decide⟩, ⟨231, by decide⟩, ⟨230, by decide⟩, ⟨229, by decide⟩, ⟨228, by decide⟩, ⟨227, by decide⟩, ⟨226, by decide⟩, ⟨225, by decide⟩, ⟨224, by decide⟩, ⟨223, by decide⟩, ⟨222, by decide⟩, ⟨221, by decide⟩, ⟨220, by decide⟩, ⟨219, by decide⟩, ⟨218, by decide⟩, ⟨217, by decide⟩, ⟨216, by decide⟩, ⟨215, by decide⟩, ⟨214, by decide⟩, ⟨213, by decide⟩, ⟨212, by decide⟩, ⟨211, by decide⟩, ⟨210, by decide⟩, ⟨209, by decide⟩, ⟨208, by decide⟩, ⟨207, by decide⟩, ⟨206, by decide⟩, ⟨205, by decide⟩, ⟨204, by decide⟩, ⟨203, by decide⟩, ⟨202, by decide⟩, ⟨201, by decide⟩, ⟨200, by decide⟩, ⟨199, by decide⟩, ⟨198, by decide⟩, ⟨197, by decide⟩, ⟨196, by decide⟩, ⟨195, by decide⟩, ⟨194, by decide⟩, ⟨193, by decide⟩, ⟨192, by decide⟩, ⟨191, by decide⟩, ⟨190, by decide⟩, ⟨189, by decide⟩, ⟨188, by decide⟩, ⟨187, by decide⟩, ⟨186, by decide⟩, ⟨185, by decide⟩, ⟨184, by decide⟩, ⟨183, by decide⟩, ⟨182, by decide⟩, ⟨181, by decide⟩, ⟨180, by decide⟩, ⟨179, by decide⟩, ⟨178, by decide⟩, ⟨177, by decide⟩, ⟨176, by decide⟩, ⟨175, by decide⟩, ⟨174, by decide⟩, ⟨173, by decide⟩, ⟨172, by decide⟩, ⟨171, by decide⟩, ⟨170, by decide⟩, ⟨169, by decide⟩, ⟨168, by decide⟩, ⟨167, by decide⟩, ⟨166, by decide⟩, ⟨165, by decide⟩, ⟨164, by decide⟩, ⟨163, by decide⟩, ⟨162, by decide⟩, ⟨161, by decide⟩, ⟨160, by decide⟩, ⟨159, by decide⟩, ⟨158, by decide⟩, ⟨157, by decide⟩, ⟨156, by decide⟩, ⟨155, by decide⟩, ⟨154, by decide⟩, ⟨153, by decide⟩, ⟨152, by decide⟩, ⟨151, by decide⟩, ⟨150, by decide⟩, ⟨149, by decide⟩, ⟨148, by decide⟩, ⟨147, by decide⟩, ⟨146, by decide⟩, ⟨145, by decide⟩, ⟨144, by decide⟩, ⟨143, by decide⟩, ⟨142, by decide⟩, ⟨141, by decide⟩, ⟨140, by decide⟩, ⟨139, by decide⟩, ⟨138, by decide⟩, ⟨137, by decide⟩, ⟨136, by decide⟩, ⟨135, by decide⟩, ⟨134, by decide⟩, ⟨133, by decide⟩, ⟨132, by decide⟩, ⟨131, by decide⟩, ⟨130, by decide⟩, ⟨129, by decide⟩, ⟨128, by decide⟩, ⟨127, by decide⟩, ⟨126, by decide⟩, ⟨125, by decide⟩, ⟨124, by decide⟩, ⟨123, by decide⟩, ⟨122, by decide⟩, ⟨121, by decide⟩, ⟨120, by decide⟩, ⟨119, by decide⟩, ⟨118, by decide⟩, ⟨117, by decide⟩, ⟨116, by decide⟩, ⟨115, by decide⟩, ⟨114, by decide⟩, ⟨113, by decide⟩, ⟨112, by decide⟩, ⟨111, by decide⟩, ⟨110, by decide⟩, ⟨109, by decide⟩, ⟨108, by decide⟩, ⟨107, by decide⟩, ⟨106, by decide⟩, ⟨105, by decide⟩, ⟨104, by decide⟩, ⟨103, by decide⟩, ⟨102, by decide⟩, ⟨101, by decide⟩, ⟨100, by decide⟩, ⟨99, by decide⟩, ⟨98, by decide⟩, ⟨97, by decide⟩, ⟨96, by decide⟩, ⟨95, by decide⟩, ⟨94, by decide⟩, ⟨93, by decide⟩, ⟨92, by decide⟩, ⟨91, by decide⟩, ⟨90, by decide⟩, ⟨89, by decide⟩, ⟨88, by decide⟩, ⟨87, by decide⟩, ⟨86, by decide⟩, ⟨85, by decide⟩, ⟨84, by decide⟩, ⟨83, by decide⟩, ⟨82, by decide⟩, ⟨81, by decide⟩, ⟨80, by decide⟩, ⟨79, by decide⟩, ⟨78, by decide⟩, ⟨77, by decide⟩, ⟨76, by decide⟩, ⟨75, by decide⟩, ⟨74, by decide⟩, ⟨73, by decide⟩, ⟨72, by decide⟩, ⟨71, by decide⟩, ⟨70, by decide⟩, ⟨69, by decide⟩, ⟨68, by decide⟩, ⟨67, by decide⟩, ⟨66, by decide⟩, ⟨65, by decide⟩, ⟨64, by decide⟩, ⟨63, by decide⟩, ⟨62, by decide⟩, ⟨61, by decide⟩, ⟨60, by decide⟩, ⟨59, by decide⟩, ⟨58, by decide⟩, ⟨57, by decide⟩, ⟨56, by decide⟩, ⟨55, by decide⟩, ⟨54, by decide⟩, ⟨53, by decide⟩, ⟨52, by decide⟩, ⟨51, by decide⟩, ⟨50, by decide⟩, ⟨49, by decide⟩, ⟨48, by decide⟩, ⟨47, by decide⟩, ⟨46, by decide⟩, ⟨45, by decide⟩, ⟨44, by decide⟩, ⟨43, by decide⟩, ⟨42, by decide⟩, ⟨41, by decide⟩, ⟨40, by decide⟩, ⟨39, by decide⟩, ⟨38, by decide⟩, ⟨37, by decide⟩, ⟨36, by decide⟩, ⟨35, by decide⟩, ⟨34, by decide⟩, ⟨33, by decide⟩, ⟨32, by decide⟩, ⟨31, by decide⟩, ⟨30, by decide⟩, ⟨29, by decide⟩, ⟨28, by decide⟩, ⟨27, by decide⟩, ⟨26, by decide⟩, ⟨25, by decide⟩, ⟨24, by decide⟩, ⟨23, by decide⟩, ⟨22, by decide⟩, ⟨21, by decide⟩, ⟨20, by decide⟩, ⟨19, by decide⟩, ⟨18, by decide⟩, ⟨17, by decide⟩, ⟨16, by decide⟩, ⟨15, by decide⟩, ⟨14, by decide⟩, ⟨13, by decide⟩, ⟨12, by decide⟩, ⟨11, by decide⟩, ⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] : List (Fin 320)).map (L11p arg16 harg16 x16) := rfl

end Cert.KernelIdeal.Gen
-- ==== Proof.Spec.lean ====
/- The body's values over the extended reals: what each payload holds at an index. -/
module

public import proofs.«01_k».proof.Proof.Base
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The quantiser, number by number -/

/-- The magnitude of a number. -/
abbrev mag (t : Ideal .f32) : Ideal .f32 := FloatOps.absf t

/-- How many of the 255 words `k <<< 23`, `k = 1 … 255`, read as numbers, `|t|` is not below. -/
def cnt (t : Ideal .f32) : BitVec 32 :=
  Finset.univ.fold IntOp.addi 0#32 fun x : Fin 255 =>
    if FloatOps.absf t < Ideal.ofBits .f32 (IntOp.shli .vector (IntOp.addi (BitVec.ofNat 32 ↑x) 1#32) 23#32) then 0#32 else 1#32

/-- The exponent field used: the count, or 126 where the count is 0 or 255. -/
def fld (t : Ideal .f32) : BitVec 32 :=
  Scalar.select (IntOp.ori (IntOp.cmpi .eq (cnt t) 0#32) (IntOp.cmpi .eq (cnt t) 255#32)) 126#32 (cnt t)

/-- The scale: the word of the next power of two. -/
def scl (t : Ideal .f32) : Ideal .f32 := Ideal.ofBits .f32 (IntOp.shli .vector (IntOp.addi (fld t) 1#32) 23#32)

/-- The inverse of the scale, as a word. -/
def inv (t : Ideal .f32) : Ideal .f32 := Ideal.ofBits .f32 (IntOp.shli .vector (IntOp.subi 253#32 (fld t)) 23#32)

/-- The clip to e4m3's range. -/
def clip (v : Ideal .f32) : Ideal .f32 := min (Ideal.ofBits .f32 0x43E00000#32) (max (Ideal.ofBits .f32 0xC3E00000#32) v)

/-- The constant that a largest magnitude is multiplied by. -/
abbrev c448 : Ideal .f32 := Ideal.ofBits .f32 0x3B124925#32

/-- The number that row `r` of a block of 512 rows takes its scale from. -/
def tX (x : Vec Ideal S512x1536 .bf16) (r : Fin 512) : Ideal .f32 :=
  Finset.univ.fold max (Ideal.ofBits .f32 0xFF800000#32) (fun k : Fin 1536 => (FloatOps.absf (x (ix2 r k) : Ideal .f32) : Ideal .f32)) * c448

/-- The codes of a block of 512 rows. -/
def xcOf (x : Vec Ideal S512x1536 .bf16) : Vec Ideal S512x1536 .fp8e4m3 := fun y => clip (x y * inv (tX x (y 0)))

/-- The scales of a block of 512 rows, each repeated over 128 lanes. -/
def xsOf (x : Vec Ideal S512x1536 .bf16) : Vec Ideal S512x128 .f32 := fun y => scl (tX x (y 0))

/-- The result before its own quantisation, from the codes and scales of 512 rows. -/
def yOf (xc : Vec Ideal S512x1536 .fp8e4m3) (xs : Vec Ideal S512x128 .f32) (w : Vec Ideal S1536x8960 .fp8e4m3)
    (ws : Vec Ideal S1x8960 .f32) (r : Fin 512) (q : Fin 8960) : Ideal .f32 :=
  (∑ k : Fin 1536, xc (ix2 r k) * w (ix2 k q)) * xs (ix2 r ⟨q.val % 128, Nat.mod_lt _ (by omega)⟩) * ws (ix2 0 q)

/-- The largest magnitude of the rows `r`, `8 + r`, … of 512, in column `q`. -/
def aOf (xc : Vec Ideal S512x1536 .fp8e4m3) (xs : Vec Ideal S512x128 .f32) (w : Vec Ideal S1536x8960 .fp8e4m3)
    (ws : Vec Ideal S1x8960 .f32) (r : Fin 8) (q : Fin 8960) : Ideal .f32 :=
  Finset.univ.fold max (Ideal.ofBits .f32 0xFF800000#32) fun k : Fin 64 =>
    (FloatOps.absf (yOf xc xs w ws ⟨k.val * 8 + r.val, by omega⟩ q) : Ideal .f32)

/-- The number that the second quantisation takes its scale from. -/
def tH (h : Vec Ideal S16 .f32) : Ideal .f32 :=
  max (max (max (max (max (max (max (max (max (max (max (max (max (max (max (h (ix1 0)) (h (ix1 1))) (h (ix1 2))) (h (ix1 3))) (h (ix1 4))) (h (ix1 5))) (h (ix1 6))) (h (ix1 7))) (h (ix1 8))) (h (ix1 9))) (h (ix1 10))) (h (ix1 11))) (h (ix1 12))) (h (ix1 13))) (h (ix1 14))) (h (ix1 15)) * c448

/-! ## The payloads of the body -/

/-- The scales of 32 rows. -/
def qS (b : Vec Ideal S32x1536 .bf16) : FVec Ideal S32x128 .f32 := k0_pay119 (k0_pay117 b)
/-- The codes of 32 rows. -/
def qC (b : Vec Ideal S32x1536 .bf16) : FVec Ideal S32x1536 .fp8e4m3 := k0_pay120 (k0_pay115 b) (k0_pay118 b)

/-- `tX` of 32 rows. -/
def tB (x : Vec Ideal S32x1536 .bf16) (r : Fin 32) : Ideal .f32 :=
  Finset.univ.fold max (Ideal.ofBits .f32 0xFF800000#32) (fun k : Fin 1536 => (FloatOps.absf (x (ix2 r k) : Ideal .f32) : Ideal .f32)) * c448

theorem qS_apply (b : Vec Ideal S32x1536 .bf16) (r : Fin 32) (q : Fin 128) : qS b (ix2 r q) = scl (tB b r) := by
  unfold qS scl fld cnt tB
  unfold_payloads
  pointwise

theorem pay118_apply (b : Vec Ideal S32x1536 .bf16) (r : Fin 32) (q : Fin 128) : k0_pay118 b (ix2 r q) = inv (tB b r) := by
  unfold inv fld cnt tB
  unfold_payloads
  pointwise

theorem pay120_apply (b : Vec Ideal S32x1536 .bf16) (x : FVec Ideal S32x128 .f32) (z : Ideal .f32) (r : Fin 32) (q : Fin 1536)
    (hx : ∀ l : Fin 128, x (ix2 r l) = z) : k0_pay120 (k0_pay115 b) x (ix2 r q) = clip (b (ix2 r q) * z) := by
  unfold clip
  unfold_payloads
  pointwise
  simp only [hx, dite_eq_ite, ite_self]

theorem qC_apply (b : Vec Ideal S32x1536 .bf16) (r : Fin 32) (q : Fin 1536) : qC b (ix2 r q) = clip (b (ix2 r q) * inv (tB b r)) :=
  pay120_apply b _ _ r q fun l => pay118_apply b r l

/-- A tile of the second result's codes. -/
def yT (y : FVec Ideal S1x256 .f32) (xc : Vec Ideal S512x1536 .fp8e4m3) (wt : Vec Ideal S1536x256 .fp8e4m3)
    (xs : Vec Ideal S512x128 .f32) (ws : Vec Ideal S1x256 .f32) : FVec Ideal S512x256 .fp8e4m3 := k0_pay477 y xc wt xs ws

/-- A tile of the running maxima. -/
def aT (xc : Vec Ideal S512x1536 .fp8e4m3) (wt : Vec Ideal S1536x256 .fp8e4m3)
    (xs : Vec Ideal S512x128 .f32) (ws : Vec Ideal S1x256 .f32) (old : Vec Ideal S8x256 .f32) : FVec Ideal S8x256 .f32 := k0_pay537 xc wt xs ws old

/-- Where lane `q` of a tile finds its scale among 128. -/
theorem lane_eq (xs : Vec Ideal S512x128 .f32) (r : Fin 512) (q : Fin 256) (c : ℕ) (hc : c % 128 = q.val % 128) (h0 : c % 128 < 128) :
    (if h : q.val < 128 then xs (ix2 r ⟨q.val, h⟩) else xs (ix2 r ⟨q.val - 128, by omega⟩)) = xs (ix2 r ⟨c % 128, h0⟩) := by
  split
  · congr 2; apply Fin.ext; show q.val = c % 128; omega
  · congr 2; apply Fin.ext; show q.val - 128 = c % 128; omega

theorem yT_apply (y : FVec Ideal S1x256 .f32) (xc : Vec Ideal S512x1536 .fp8e4m3) (w : Vec Ideal S1536x8960 .fp8e4m3)
    (wt : Vec Ideal S1536x256 .fp8e4m3) (xs : Vec Ideal S512x128 .f32) (ws : Vec Ideal S1x8960 .f32) (wst : Vec Ideal S1x256 .f32)
    (j : ℕ) (hj : j < 35) (hw : ∀ k q, wt (ix2 k q) = w (ix2 k ⟨256 * j + q.val, by omega⟩))
    (hs : ∀ q, wst (ix2 0 q) = ws (ix2 0 ⟨256 * j + q.val, by omega⟩)) (r : Fin 512) (q : Fin 256) :
    yT y xc wt xs wst (ix2 r q) = clip (yOf xc xs w ws r ⟨256 * j + q.val, by omega⟩ * y (ix2 0 q)) := by
  unfold yT clip yOf
  unfold_payloads
  pointwise
  simp only [hw, hs]
  rw [lane_eq xs r q (256 * j + q.val) (by omega) (by omega)]

theorem aT_apply (xc : Vec Ideal S512x1536 .fp8e4m3) (w : Vec Ideal S1536x8960 .fp8e4m3)
    (wt : Vec Ideal S1536x256 .fp8e4m3) (xs : Vec Ideal S512x128 .f32) (ws : Vec Ideal S1x8960 .f32) (wst : Vec Ideal S1x256 .f32)
    (old : Vec Ideal S8x256 .f32)
    (j : ℕ) (hj : j < 35) (hw : ∀ k q, wt (ix2 k q) = w (ix2 k ⟨256 * j + q.val, by omega⟩))
    (hs : ∀ q, wst (ix2 0 q) = ws (ix2 0 ⟨256 * j + q.val, by omega⟩)) (r : Fin 8) (q : Fin 256) :
    aT xc wt xs wst old (ix2 r q) = max (old (ix2 r q)) (aOf xc xs w ws r ⟨256 * j + q.val, by omega⟩) := by
  unfold aT aOf yOf
  unfold_payloads
  pointwise
  simp only [hw, hs]
  congr 2
  funext k
  exact congrArg FloatOps.absf (congrArg₂ (· * ·) (congrArg₂ (· * ·) rfl (lane_eq xs ⟨k.val * 8 + r.val, by omega⟩ q (256 * j + q.val) (by omega) (by omega))) rfl)

/-- A row of scales from a square of them: the diagonal. -/
def diag (b : Vec Ideal S128x128 .f32) : FVec Ideal S1x128 .f32 := k0_pay322 b

theorem diag_apply (b : Vec Ideal S128x128 .f32) (q : Fin 128) : diag b (ix2 0 q) = b (ix2 q q) := by
  unfold diag
  unfold_payloads
  pointwise
  rw [Finset.sum_eq_single q]
  · simp [Scalar.select, IntOp.cmpi]
  · intro k _ hk
    have : (BitVec.ofNat 32 k.val == BitVec.ofNat 32 q.val) = false := by
      rw [beq_eq_false_iff_ne]
      intro h
      have h := congrArg BitVec.toNat h
      simp only [BitVec.toNat_ofNat] at h
      exact hk (Fin.ext (by omega))
    simp [Scalar.select, IntOp.cmpi, this]
  · simp

theorem scale_apply (b : FVec Ideal S1x256 .f32) (q : Fin 256) : k0_pay102 b k0_pay100 (ix2 0 q) = scl (b (ix2 0 q)) := by
  unfold scl fld cnt
  unfold_payloads
  pointwise

theorem inv_apply (b : FVec Ideal S1x256 .f32) (q : Fin 256) : k0_pay103 b k0_pay100 (ix2 0 q) = inv (b (ix2 0 q)) := by
  unfold inv fld cnt
  unfold_payloads
  pointwise

theorem pay4_apply (b : FVec Ideal S1x256 .f32) : k0_pay4 b = fun _ => b (ix2 0 0) := by
  funext y
  idx_vars y
  unfold_payloads
  pointwise

theorem pay3_apply : k0_pay3 (F := Ideal) = fun _ => 0 := by
  funext y
  idx_vars y
  unfold_payloads
  pointwise

theorem pay98_apply (b : Vec Ideal S8x8960 .f32) :
    k0_pay98 b = fun _ => Finset.fold max (Ideal.ofBits .f32 0xFF800000#32) (fun x : Fin 8 × Fin 8960 => b (ix2 x.1 x.2)) Finset.univ := by
  funext y
  idx_vars y
  unfold_payloads
  pointwise

end Cert.KernelIdeal.Gen
-- ==== Proof.Vals.lean ====
/- What the pieces hold when read back, over the extended reals. -/
module

public import proofs.«01_k».proof.Proof.Canon
public import proofs.«01_k».proof.Proof.Spec
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tiles that the body loads -/

theorem rTile_apply (m : Memref sig Kind.tc Space.vmem S512x1536 .bf16) (hm : m.IsWhole) (x : Vec Ideal S512x1536 .bf16) (j : Fin 16)
    (r : Fin 32) (q : Fin 1536) : rTile m hm x j (ix2 r q) = x (ix2 ⟨32 * j.val + r.val, by omega⟩ q) := by
  unfold rTile
  rw [Memref.IsWhole.readAt_unread]
  congr 1
  funext a
  apply Fin.ext
  fin_cases a
  · show 32 * j.val + 1 * r.val = 32 * j.val + r.val; omega
  · show 0 + 1 * q.val = q.val; omega

theorem wTile_apply (m : Memref sig Kind.tc Space.vmem S1536x8960 .fp8e4m3) (hm : m.IsWhole) (x : Vec Ideal S1536x8960 .fp8e4m3) (j : Fin 35)
    (r : Fin 1536) (q : Fin 256) : wTile m hm x j (ix2 r q) = x (ix2 r ⟨256 * j.val + q.val, by omega⟩) := by
  unfold wTile
  rw [Memref.IsWhole.readAt_unread]
  congr 1
  funext a
  apply Fin.ext
  fin_cases a
  · show 0 + 1 * r.val = r.val; omega
  · show 256 * j.val + 1 * q.val = 256 * j.val + q.val; omega

theorem wsTile_apply (m : Memref sig Kind.tc Space.vmem S1x8960 .f32) (hm : m.IsWhole) (x : Vec Ideal S1x8960 .f32) (j : Fin 35)
    (q : Fin 256) : wsTile m hm x j (ix2 0 q) = x (ix2 0 ⟨256 * j.val + q.val, by omega⟩) := by
  unfold wsTile
  rw [Memref.IsWhole.readAt_unread]
  congr 1
  funext a
  apply Fin.ext
  fin_cases a
  · show 0 + 1 * 0 = 0; omega
  · show 256 * j.val + 1 * q.val = 256 * j.val + q.val; omega

theorem uC_eq (m : Memref sig Kind.tc Space.vmem S512x1536 .fp8e4m3) (hm : m.IsWhole) (x : Vec Ideal S512x1536 .fp8e4m3) : uC m hm x = x := by
  funext y
  unfold uC
  rw [Memref.IsWhole.readAt_unread]
  congr 1
  funext a
  apply Fin.ext
  fin_cases a
  · show 0 + 1 * (y 0).val = (y 0).val; omega
  · show 0 + 1 * (y 1).val = (y 1).val; omega

theorem uS_eq (m : Memref sig Kind.tc Space.vmem S512x128 .f32) (hm : m.IsWhole) (x : Vec Ideal S512x128 .f32) : uS m hm x = x := by
  funext y
  unfold uS
  rw [Memref.IsWhole.readAt_unread]
  congr 1
  funext a
  apply Fin.ext
  fin_cases a
  · show 0 + 1 * (y 0).val = (y 0).val; omega
  · show 0 + 1 * (y 1).val = (y 1).val; omega

theorem pay99_apply (a0 a1 a2 a3 a4 a5 a6 a7 a8 a9 a10 a11 a12 a13 a14 a15 : Ideal .f32) (q : Fin 256) :
    k0_pay99 a0 a1 a2 a3 a4 a5 a6 a7 a8 a9 a10 a11 a12 a13 a14 a15 (ix2 0 q)
      = max (max (max (max (max (max (max (max (max (max (max (max (max (max (max a0 a1) a2) a3) a4) a5) a6) a7) a8) a9) a10) a11) a12) a13) a14) a15 * c448 := by
  unfold_payloads
  pointwise

theorem hist_load (m : Memref sig Kind.tc Space.smem S16 .f32) (hm : m.IsWhole) (x : Vec Ideal S16 .f32) (k : Fin 16)
    (inb : ∀ a, (![k.val] : Fin 1 → ℕ) a + S1.size a ≤ S16.size a) (h) :
    View.readAt (Elt Ideal) m.view (Rect.unit (s := S16) ![k.val] S1.size inb).toLoadRect (hm.unread x) (Shape.Idx.first h) = x (ix1 k) := by
  rw [Memref.IsWhole.readAt_unread]
  congr 1
  funext a
  apply Fin.ext
  fin_cases a
  show k.val + 1 * 0 = k.val
  omega

theorem histVec_apply (m : Memref sig Kind.tc Space.smem S16 .f32) (hm : m.IsWhole) (x : Vec Ideal S16 .f32) (q : Fin 256) :
    histVec m hm x (ix2 0 q) = tH x := by
  unfold histVec
  rw [pay99_apply]
  unfold tH
  rw [show View.readAt (Elt Ideal) m.view (Rect.unit (s := S16) ![0] S1.size inb_S16_S1_0).toLoadRect (hm.unread x) (Shape.Idx.first (by decide)) = x (ix1 0) from hist_load m hm x 0 _ _]
  rw [show View.readAt (Elt Ideal) m.view (Rect.unit (s := S16) ![1] S1.size inb_S16_S1_1).toLoadRect (hm.unread x) (Shape.Idx.first (by decide)) = x (ix1 1) from hist_load m hm x 1 _ _]
  rw [show View.readAt (Elt Ideal) m.view (Rect.unit (s := S16) ![2] S1.size inb_S16_S1_2).toLoadRect (hm.unread x) (Shape.Idx.first (by decide)) = x (ix1 2) from hist_load m hm x 2 _ _]
  rw [show View.readAt (Elt Ideal) m.view (Rect.unit (s := S16) ![3] S1.size inb_S16_S1_3).toLoadRect (hm.unread x) (Shape.Idx.first (by decide)) = x (ix1 3) from hist_load m hm x 3 _ _]
  rw [show View.readAt (Elt Ideal) m.view (Rect.unit (s := S16) ![4] S1.size inb_S16_S1_4).toLoadRect (hm.unread x) (Shape.Idx.first (by decide)) = x (ix1 4) from hist_load m hm x 4 _ _]
  rw [show View.readAt (Elt Ideal) m.view (Rect.unit (s := S16) ![5] S1.size inb_S16_S1_5).toLoadRect (hm.unread x) (Shape.Idx.first (by decide)) = x (ix1 5) from hist_load m hm x 5 _ _]
  rw [show View.readAt (Elt Ideal) m.view (Rect.unit (s := S16) ![6] S1.size inb_S16_S1_6).toLoadRect (hm.unread x) (Shape.Idx.first (by decide)) = x (ix1 6) from hist_load m hm x 6 _ _]
  rw [show View.readAt (Elt Ideal) m.view (Rect.unit (s := S16) ![7] S1.size inb_S16_S1_7).toLoadRect (hm.unread x) (Shape.Idx.first (by decide)) = x (ix1 7) from hist_load m hm x 7 _ _]
  rw [show View.readAt (Elt Ideal) m.view (Rect.unit (s := S16) ![8] S1.size inb_S16_S1_8).toLoadRect (hm.unread x) (Shape.Idx.first (by decide)) = x (ix1 8) from hist_load m hm x 8 _ _]
  rw [show View.readAt (Elt Ideal) m.view (Rect.unit (s := S16) ![9] S1.size inb_S16_S1_9).toLoadRect (hm.unread x) (Shape.Idx.first (by decide)) = x (ix1 9) from hist_load m hm x 9 _ _]
  rw [show View.readAt (Elt Ideal) m.view (Rect.unit (s := S16) ![10] S1.size inb_S16_S1_10).toLoadRect (hm.unread x) (Shape.Idx.first (by decide)) = x (ix1 10) from hist_load m hm x 10 _ _]
  rw [show View.readAt (Elt Ideal) m.view (Rect.unit (s := S16) ![11] S1.size inb_S16_S1_11).toLoadRect (hm.unread x) (Shape.Idx.first (by decide)) = x (ix1 11) from hist_load m hm x 11 _ _]
  rw [show View.readAt (Elt Ideal) m.view (Rect.unit (s := S16) ![12] S1.size inb_S16_S1_12).toLoadRect (hm.unread x) (Shape.Idx.first (by decide)) = x (ix1 12) from hist_load m hm x 12 _ _]
  rw [show View.readAt (Elt Ideal) m.view (Rect.unit (s := S16) ![13] S1.size inb_S16_S1_13).toLoadRect (hm.unread x) (Shape.Idx.first (by decide)) = x (ix1 13) from hist_load m hm x 13 _ _]
  rw [show View.readAt (Elt Ideal) m.view (Rect.unit (s := S16) ![14] S1.size inb_S16_S1_14).toLoadRect (hm.unread x) (Shape.Idx.first (by decide)) = x (ix1 14) from hist_load m hm x 14 _ _]
  rw [show View.readAt (Elt Ideal) m.view (Rect.unit (s := S16) ![15] S1.size inb_S16_S1_15).toLoadRect (hm.unread x) (Shape.Idx.first (by decide)) = x (ix1 15) from hist_load m hm x 15 _ _]

/-! ## The quantised blocks -/

theorem tB_rTile (m : Memref sig Kind.tc Space.vmem S512x1536 .bf16) (hm : m.IsWhole) (x : Vec Ideal S512x1536 .bf16) (j : Fin 16)
    (r : Fin 32) : tB (rTile m hm x j) r = tX x ⟨32 * j.val + r.val, by omega⟩ := by
  unfold tB tX
  simp only [rTile_apply]

theorem mem_tiles16 (j : Fin 16) : j ∈ tiles16 := by revert j; decide
theorem mem_tiles35 (j : Fin 35) : j ∈ tiles35 := by revert j; decide

/-- The codes' pieces, read back: `xcOf`. -/
theorem LC_val {sp : Space} (v : View sig Kind.tc sp S512x1536 .fp8e4m3) (f : v.ty.Contents (Elt Ideal))
    (m : Memref sig Kind.tc Space.vmem S512x1536 .bf16) (hm : m.IsWhole) (x : Vec Ideal S512x1536 .bf16) :
    v.read (Elt Ideal) (v.writes (Elt Ideal) f (LC m hm x)) = xcOf x := by
  funext y
  refine View.read_writes_apply_of_pieces v f (xcOf x) _ ?_ y ?_
  · intro p hp z
    obtain ⟨j, _, rfl⟩ := List.mem_map.1 hp
    have key : ∀ z : S32x1536.Idx, qC (rTile m hm x j) z = xcOf x (ix2 ⟨32 * j.val + (z 0).val, by have h0 : (z 0).val < 32 := (z 0).isLt; omega⟩ (z 1)) := by
      intro z
      idx_vars z
      rw [qC_apply, rTile_apply, tB_rTile]
      rfl
    refine (key z).trans (congrArg _ ?_)
    funext a
    apply Fin.ext
    fin_cases a
    · show 32 * j.val + (z 0).val = 32 * j.val + 1 * (z 0).val; omega
    · show (z 1).val = 0 + 1 * (z 1).val; omega
  · have h0 : (y 0).val < 512 := (y 0).isLt
    have h1 : (y 1).val < 1536 := (y 1).isLt
    refine ⟨_, List.mem_map_of_mem (mem_tiles16 ⟨(y 0).val / 32, by omega⟩), ?_⟩
    refine (Rect.mem_set_unit (inb := inbQ _)).2 fun a => ?_
    fin_cases a
    · show 32 * ((y 0).val / 32) ≤ (y 0).val ∧ (y 0).val < 32 * ((y 0).val / 32) + 32; omega
    · show 0 ≤ (y 1).val ∧ (y 1).val < 0 + 1536; omega

/-- The scales' pieces, read back: `xsOf`. -/
theorem LS_val {sp : Space} (v : View sig Kind.tc sp S512x128 .f32) (f : v.ty.Contents (Elt Ideal))
    (m : Memref sig Kind.tc Space.vmem S512x1536 .bf16) (hm : m.IsWhole) (x : Vec Ideal S512x1536 .bf16) :
    v.read (Elt Ideal) (v.writes (Elt Ideal) f (LS m hm x)) = xsOf x := by
  funext y
  refine View.read_writes_apply_of_pieces v f (xsOf x) _ ?_ y ?_
  · intro p hp z
    obtain ⟨j, _, rfl⟩ := List.mem_map.1 hp
    have key : ∀ z : S32x128.Idx, qS (rTile m hm x j) z = xsOf x (ix2 ⟨32 * j.val + (z 0).val, by have h0 : (z 0).val < 32 := (z 0).isLt; omega⟩ (z 1)) := by
      intro z
      idx_vars z
      rw [qS_apply, tB_rTile]
      rfl
    refine (key z).trans (congrArg _ ?_)
    funext a
    apply Fin.ext
    fin_cases a
    · show 32 * j.val + (z 0).val = 32 * j.val + 1 * (z 0).val; omega
    · show (z 1).val = 0 + 1 * (z 1).val; omega
  · have h0 : (y 0).val < 512 := (y 0).isLt
    have h1 : (y 1).val < 128 := (y 1).isLt
    refine ⟨_, List.mem_map_of_mem (mem_tiles16 ⟨(y 0).val / 32, by omega⟩), ?_⟩
    refine (Rect.mem_set_unit (inb := inbS _)).2 fun a => ?_
    fin_cases a
    · show 32 * ((y 0).val / 32) ≤ (y 0).val ∧ (y 0).val < 32 * ((y 0).val / 32) + 32; omega
    · show 0 ≤ (y 1).val ∧ (y 1).val < 0 + 128; omega

theorem rC_LC (m' : Memref sig Kind.tc Space.vmem S512x1536 .fp8e4m3)
    (m : Memref sig Kind.tc Space.vmem S512x1536 .bf16) (hm : m.IsWhole) (x : Vec Ideal S512x1536 .bf16) :
    rC m' (LC m hm x) = xcOf x := by
  funext y
  refine (congrFun (LC_val m'.view m'.view.junk m hm x) _).trans (congrArg _ ?_)
  funext a
  apply Fin.ext
  fin_cases a
  · show 0 + 1 * (y 0).val = (y 0).val; omega
  · show 0 + 1 * (y 1).val = (y 1).val; omega

theorem rS_LS (m' : Memref sig Kind.tc Space.vmem S512x128 .f32)
    (m : Memref sig Kind.tc Space.vmem S512x1536 .bf16) (hm : m.IsWhole) (x : Vec Ideal S512x1536 .bf16) :
    rS m' (LS m hm x) = xsOf x := by
  funext y
  refine (congrFun (LS_val m'.view m'.view.junk m hm x) _).trans (congrArg _ ?_)
  funext a
  apply Fin.ext
  fin_cases a
  · show 0 + 1 * (y 0).val = (y 0).val; omega
  · show 0 + 1 * (y 1).val = (y 1).val; omega

/-! ## The first output -/

/-- The codes of a row block of the first output: the upper 512 rows from the first block of rows, the lower from the second. -/
def ycOf (h : Vec Ideal S16 .f32) (w : Vec Ideal S1536x8960 .fp8e4m3) (ws : Vec Ideal S1x8960 .f32)
    (xcA : Vec Ideal S512x1536 .fp8e4m3) (xsA : Vec Ideal S512x128 .f32) (xcB : Vec Ideal S512x1536 .fp8e4m3) (xsB : Vec Ideal S512x128 .f32) :
    Vec Ideal S1024x8960 .fp8e4m3 := fun y =>
  if hy : (y 0).val < 512 then clip (yOf xcA xsA w ws ⟨(y 0).val, hy⟩ (y 1) * inv (tH h))
  else clip (yOf xcB xsB w ws ⟨(y 0).val - 512, by have h0 : (y 0).val < 1024 := (y 0).isLt; omega⟩ (y 1) * inv (tH h))

theorem ycOf_upper (h : Vec Ideal S16 .f32) (w : Vec Ideal S1536x8960 .fp8e4m3) (ws : Vec Ideal S1x8960 .f32)
    (xcA : Vec Ideal S512x1536 .fp8e4m3) (xsA : Vec Ideal S512x128 .f32) (xcB : Vec Ideal S512x1536 .fp8e4m3) (xsB : Vec Ideal S512x128 .f32)
    (y : S1024x8960.Idx) (r : Fin 512) (q : Fin 8960) (h0 : (y 0).val = r.val) (h1 : (y 1).val = q.val) :
    ycOf h w ws xcA xsA xcB xsB y = clip (yOf xcA xsA w ws r q * inv (tH h)) := by
  unfold ycOf
  rw [dif_pos (by rw [h0]; exact r.isLt)]
  have e0 : (⟨(y 0).val, by rw [h0]; exact r.isLt⟩ : Fin 512) = r := Fin.ext h0
  have e1 : (y 1 : Fin 8960) = q := Fin.ext h1
  exact congrArg₂ (fun r q => clip (yOf xcA xsA w ws r q * inv (tH h))) e0 e1

theorem ycOf_lower (h : Vec Ideal S16 .f32) (w : Vec Ideal S1536x8960 .fp8e4m3) (ws : Vec Ideal S1x8960 .f32)
    (xcA : Vec Ideal S512x1536 .fp8e4m3) (xsA : Vec Ideal S512x128 .f32) (xcB : Vec Ideal S512x1536 .fp8e4m3) (xsB : Vec Ideal S512x128 .f32)
    (y : S1024x8960.Idx) (r : Fin 512) (q : Fin 8960) (h0 : (y 0).val = 512 + r.val) (h1 : (y 1).val = q.val) :
    ycOf h w ws xcA xsA xcB xsB y = clip (yOf xcB xsB w ws r q * inv (tH h)) := by
  unfold ycOf
  rw [dif_neg (by omega)]
  have hr := r.isLt
  have e0 : (⟨(y 0).val - 512, by omega⟩ : Fin 512) = r := Fin.ext (by show (y 0).val - 512 = r.val; omega)
  have e1 : (y 1 : Fin 8960) = q := Fin.ext h1
  exact congrArg₂ (fun r q => clip (yOf xcB xsB w ws r q * inv (tH h))) e0 e1

theorem L7_val {sp : Space} (v : View sig Kind.tc sp S1024x8960 .fp8e4m3) (f : v.ty.Contents (Elt Ideal))
    (arg1 : Memref sig Kind.tc Space.smem S16 .f32) (harg1 : arg1.IsWhole) (x1 : Vec Ideal S16 .f32)
    (arg5 : Memref sig Kind.tc Space.vmem S1536x8960 .fp8e4m3) (harg5 : arg5.IsWhole) (x5 : Vec Ideal S1536x8960 .fp8e4m3)
    (arg6 : Memref sig Kind.tc Space.vmem S1x8960 .f32) (harg6 : arg6.IsWhole) (x6 : Vec Ideal S1x8960 .f32)
    (xcA : Vec Ideal S512x1536 .fp8e4m3) (xsA : Vec Ideal S512x128 .f32) (xcB : Vec Ideal S512x1536 .fp8e4m3) (xsB : Vec Ideal S512x128 .f32) :
    v.read (Elt Ideal) (v.writes (Elt Ideal) f
      (L7h (wTile arg5 harg5 x5) (wsTile arg6 harg6 x6) (k0_pay103 (histVec arg1 harg1 x1) k0_pay100) xcB xsB 512 (by decide) tiles35
        ++ L7h (wTile arg5 harg5 x5) (wsTile arg6 harg6 x6) (k0_pay103 (histVec arg1 harg1 x1) k0_pay100) xcA xsA 0 (by decide) tiles35))
      = ycOf x1 x5 x6 xcA xsA xcB xsB := by
  have tile : ∀ (xc : Vec Ideal S512x1536 .fp8e4m3) (xs : Vec Ideal S512x128 .f32) (j : Fin 35) (z : S512x256.Idx),
      yT (k0_pay103 (histVec arg1 harg1 x1) k0_pay100) xc (wTile arg5 harg5 x5 j) xs (wsTile arg6 harg6 x6 j) z
        = clip (yOf xc xs x5 x6 (z 0) ⟨256 * j.val + (z 1).val, by have h1 : (z 1).val < 256 := (z 1).isLt; omega⟩ * inv (tH x1)) := by
    intro xc xs j z
    idx_vars z
    rw [yT_apply _ _ x5 _ _ x6 _ j.val j.isLt (fun k q => wTile_apply arg5 harg5 x5 j k q) (fun q => wsTile_apply arg6 harg6 x6 j q),
      inv_apply, histVec_apply]
  funext y
  have h0 : (y 0).val < 1024 := (y 0).isLt
  have h1 : (y 1).val < 8960 := (y 1).isLt
  refine View.read_writes_apply_of_pieces v f (ycOf x1 x5 x6 xcA xsA xcB xsB) _ ?_ y ?_
  · intro p hp z
    rcases List.mem_append.1 hp with hp | hp
    · obtain ⟨j, _, rfl⟩ := List.mem_map.1 hp
      refine (tile xcB xsB j z).trans ?_
      have hz0 : (z 0).val < 512 := (z 0).isLt
      exact (ycOf_lower x1 x5 x6 xcA xsA xcB xsB _ _ _ (show 512 + 1 * (z 0).val = 512 + (z 0).val by omega) (show 256 * j.val + 1 * (z 1).val = 256 * j.val + (z 1).val by omega)).symm
    · obtain ⟨j, _, rfl⟩ := List.mem_map.1 hp
      refine (tile xcA xsA j z).trans ?_
      have hz0 : (z 0).val < 512 := (z 0).isLt
      exact (ycOf_upper x1 x5 x6 xcA xsA xcB xsB _ _ _ (show 0 + 1 * (z 0).val = (z 0).val by omega) (show 256 * j.val + 1 * (z 1).val = 256 * j.val + (z 1).val by omega)).symm
  · by_cases hy : (y 0).val < 512
    · refine ⟨_, List.mem_append.2 (Or.inr (List.mem_map_of_mem (mem_tiles35 ⟨(y 1).val / 256, by omega⟩))), ?_⟩
      refine (Rect.mem_set_unit (inb := inb7 0 (by decide) _)).2 fun a => ?_
      fin_cases a
      · show 0 ≤ (y 0).val ∧ (y 0).val < 0 + 512; omega
      · show 256 * ((y 1).val / 256) ≤ (y 1).val ∧ (y 1).val < 256 * ((y 1).val / 256) + 256; omega
    · refine ⟨_, List.mem_append.2 (Or.inl (List.mem_map_of_mem (mem_tiles35 ⟨(y 1).val / 256, by omega⟩))), ?_⟩
      refine (Rect.mem_set_unit (inb := inb7 512 (by decide) _)).2 fun a => ?_
      fin_cases a
      · show 512 ≤ (y 0).val ∧ (y 0).val < 512 + 512; omega
      · show 256 * ((y 1).val / 256) ≤ (y 1).val ∧ (y 1).val < 256 * ((y 1).val / 256) + 256; omega

/-! ## The output of codes -/

/-- Two blocks of codes, one above the other. -/
def xcPair (xcA xcB : Vec Ideal S512x1536 .fp8e4m3) : Vec Ideal S1024x1536 .fp8e4m3 := fun y =>
  if hy : (y 0).val < 512 then xcA (ix2 ⟨(y 0).val, hy⟩ (y 1))
  else xcB (ix2 ⟨(y 0).val - 512, by have h0 : (y 0).val < 1024 := (y 0).isLt; omega⟩ (y 1))

theorem L10_val {sp : Space} (v : View sig Kind.tc sp S1024x1536 .fp8e4m3) (f : v.ty.Contents (Elt Ideal))
    (xcA xcB : Vec Ideal S512x1536 .fp8e4m3) :
    v.read (Elt Ideal) (v.writes (Elt Ideal) f [⟨Rect.unit (s := S1024x1536) ![512, 0] S512x1536.size inb_S1024x1536_S512x1536_512_0, xcB⟩,
      ⟨Rect.unit (s := S1024x1536) ![0, 0] S512x1536.size inb_S1024x1536_S512x1536_0_0, xcA⟩]) = xcPair xcA xcB := by
  funext y
  have h0 : (y 0).val < 1024 := (y 0).isLt
  have h1 : (y 1).val < 1536 := (y 1).isLt
  by_cases hy : (y 0).val < 512
  · rw [View.read_writes_cons_miss_of_axis v f _ _ y 0 512 512 rfl rfl rfl (Or.inl hy)]
    rw [View.read_writes_cons_hit_of_coords v f _ _ _ (ix2 ⟨(y 0).val, hy⟩ (y 1)) y (by
      intro a
      fin_cases a
      · show (y 0).val = 0 + 1 * (y 0).val; omega
      · show (y 1).val = 0 + 1 * (y 1).val; omega)]
    unfold xcPair
    rw [dif_pos hy]
    rfl
  · rw [View.read_writes_cons_hit_of_coords v f _ _ _ (ix2 ⟨(y 0).val - 512, by omega⟩ (y 1)) y (by
      intro a
      fin_cases a
      · show (y 0).val = 512 + 1 * ((y 0).val - 512); omega
      · show (y 1).val = 0 + 1 * (y 1).val; omega)]
    unfold xcPair
    rw [dif_neg hy]
    rfl

/-! ## The running maxima -/

/-- The running maxima after a row block. -/
def amaxOf (a : Vec Ideal S8x8960 .f32) (xc : Vec Ideal S512x1536 .fp8e4m3) (xs : Vec Ideal S512x128 .f32) (w : Vec Ideal S1536x8960 .fp8e4m3)
    (ws : Vec Ideal S1x8960 .f32) : Vec Ideal S8x8960 .f32 := fun y => max (a y) (aOf xc xs w ws (y 0) (y 1))

theorem amaxOf_at (a : Vec Ideal S8x8960 .f32) (xc : Vec Ideal S512x1536 .fp8e4m3) (xs : Vec Ideal S512x128 .f32) (w : Vec Ideal S1536x8960 .fp8e4m3)
    (ws : Vec Ideal S1x8960 .f32) (y : S8x8960.Idx) (r : Fin 8) (q : Fin 8960) (h0 : (y 0).val = r.val) (h1 : (y 1).val = q.val) :
    amaxOf a xc xs w ws y = max (a y) (aOf xc xs w ws r q) :=
  congrArg₂ (fun r q => max (a y) (aOf xc xs w ws r q)) (Fin.ext h0 : (y 0 : Fin 8) = r) (Fin.ext h1 : (y 1 : Fin 8960) = q)

theorem aT_tile (arg5 : Memref sig Kind.tc Space.vmem S1536x8960 .fp8e4m3) (harg5 : arg5.IsWhole) (x5 : Vec Ideal S1536x8960 .fp8e4m3)
    (arg6 : Memref sig Kind.tc Space.vmem S1x8960 .f32) (harg6 : arg6.IsWhole) (x6 : Vec Ideal S1x8960 .f32)
    (xc : Vec Ideal S512x1536 .fp8e4m3) (xs : Vec Ideal S512x128 .f32) (old : Vec Ideal S8x256 .f32) (j : Fin 35) (z : S8x256.Idx) :
    aT xc (wTile arg5 harg5 x5 j) xs (wsTile arg6 harg6 x6 j) old z
      = max (old z) (aOf xc xs x5 x6 (z 0) ⟨256 * j.val + (z 1).val, by have h1 : (z 1).val < 256 := (z 1).isLt; omega⟩) := by
  idx_vars z
  exact aT_apply _ x5 _ _ x6 _ _ j.val j.isLt (fun k q => wTile_apply arg5 harg5 x5 j k q) (fun q => wsTile_apply arg6 harg6 x6 j q) z0 z1

theorem L17a_val {sp : Space} (v : View sig Kind.tc sp S8x8960 .f32) (f : v.ty.Contents (Elt Ideal))
    (arg17 : Memref sig Kind.tc Space.vmem S8x8960 .f32) (harg17 : arg17.IsWhole) (x17 : Vec Ideal S8x8960 .f32)
    (arg5 : Memref sig Kind.tc Space.vmem S1536x8960 .fp8e4m3) (harg5 : arg5.IsWhole) (x5 : Vec Ideal S1536x8960 .fp8e4m3)
    (arg6 : Memref sig Kind.tc Space.vmem S1x8960 .f32) (harg6 : arg6.IsWhole) (x6 : Vec Ideal S1x8960 .f32)
    (xc : Vec Ideal S512x1536 .fp8e4m3) (xs : Vec Ideal S512x128 .f32) :
    v.read (Elt Ideal) (v.writes (Elt Ideal) f (L17a arg17 harg17 x17 (wTile arg5 harg5 x5) (wsTile arg6 harg6 x6) xc xs tiles35))
      = amaxOf x17 xc xs x5 x6 := by
  funext y
  have h0 : (y 0).val < 8 := (y 0).isLt
  have h1 : (y 1).val < 8960 := (y 1).isLt
  refine View.read_writes_apply_of_pieces v f (amaxOf x17 xc xs x5 x6) _ ?_ y ?_
  · intro p hp z
    obtain ⟨j, _, rfl⟩ := List.mem_map.1 hp
    refine (aT_tile arg5 harg5 x5 arg6 harg6 x6 xc xs _ j z).trans ?_
    rw [Memref.IsWhole.readAt_unread]
    exact (amaxOf_at x17 xc xs x5 x6 _ _ _ (show 0 + 1 * (z 0).val = (z 0).val by omega) (show 256 * j.val + 1 * (z 1).val = 256 * j.val + (z 1).val by omega)).symm
  · refine ⟨_, List.mem_map_of_mem (mem_tiles35 ⟨(y 1).val / 256, by omega⟩), ?_⟩
    refine (Rect.mem_set_unit (inb := inb17 _)).2 fun a => ?_
    fin_cases a
    · show 0 ≤ (y 0).val ∧ (y 0).val < 0 + 8; omega
    · show 256 * ((y 1).val / 256) ≤ (y 1).val ∧ (y 1).val < 256 * ((y 1).val / 256) + 256; omega

theorem L17b_val (arg17 : Memref sig Kind.tc Space.vmem S8x8960 .f32)
    (arg5 : Memref sig Kind.tc Space.vmem S1536x8960 .fp8e4m3) (harg5 : arg5.IsWhole) (x5 : Vec Ideal S1536x8960 .fp8e4m3)
    (arg6 : Memref sig Kind.tc Space.vmem S1x8960 .f32) (harg6 : arg6.IsWhole) (x6 : Vec Ideal S1x8960 .f32)
    (xc : Vec Ideal S512x1536 .fp8e4m3) (xs : Vec Ideal S512x128 .f32) (L : List (View.Piece (Elt Ideal) S8x8960 .f32)) (G : Vec Ideal S8x8960 .f32)
    (hL : ∀ f, arg17.view.read (Elt Ideal) (arg17.view.writes (Elt Ideal) f L) = G) :
    ∀ js : List (Fin 35), js.Nodup → ∀ (f : arg17.view.ty.Contents (Elt Ideal)) (y : S8x8960.Idx),
      arg17.view.read (Elt Ideal) (arg17.view.writes (Elt Ideal) f (L17b arg17 (wTile arg5 harg5 x5) (wsTile arg6 harg6 x6) xc xs L js)) y
        = if (⟨(y 1).val / 256, by have h1 : (y 1).val < 8960 := (y 1).isLt; omega⟩ : Fin 35) ∈ js then amaxOf G xc xs x5 x6 y else G y
  | [], _, f, y => by
    rw [if_neg List.not_mem_nil]
    exact congrFun (hL f) y
  | j :: js, hjs, f, y => by
    have h0 : (y 0).val < 8 := (y 0).isLt
    have h1 : (y 1).val < 8960 := (y 1).isLt
    have ih := L17b_val arg17 arg5 harg5 x5 arg6 harg6 x6 xc xs L G hL js (List.nodup_cons.1 hjs).2
    have hj := (List.nodup_cons.1 hjs).1
    by_cases hy : (y 1).val / 256 = j.val
    · have hmem : (⟨(y 1).val / 256, by omega⟩ : Fin 35) ∈ j :: js := List.mem_cons.2 (Or.inl (Fin.ext hy))
      rw [if_pos hmem]
      refine (View.read_writes_cons_hit_of_coords arg17.view f _ _ _ (ix2 (y 0) ⟨(y 1).val - 256 * j.val, by omega⟩) y (by
        intro a
        fin_cases a
        · show (y 0).val = 0 + 1 * (y 0).val; omega
        · show (y 1).val = 256 * j.val + 1 * ((y 1).val - 256 * j.val); omega)).trans ?_
      refine (aT_tile arg5 harg5 x5 arg6 harg6 x6 xc xs _ j _).trans ?_
      refine Eq.trans ?_ (amaxOf_at G xc xs x5 x6 y (y 0) ⟨256 * j.val + ((y 1).val - 256 * j.val), by omega⟩ rfl (show (y 1).val = 256 * j.val + ((y 1).val - 256 * j.val) by omega)).symm
      refine congrArg₂ max ?_ rfl
      have hidx : ((Rect.unit (s := S8x8960) ![0, 256 * j.val] S8x256.size (inb17 j)).toLoadRect.idx (ix2 (y 0) ⟨(y 1).val - 256 * j.val, by omega⟩)) = y := by
        funext a
        apply Fin.ext
        fin_cases a
        · show 0 + 1 * (y 0).val = (y 0).val; omega
        · show 256 * j.val + 1 * ((y 1).val - 256 * j.val) = (y 1).val; omega
      refine (congrArg (arg17.view.read (Elt Ideal) (arg17.view.writes (Elt Ideal) arg17.view.junk (L17b arg17 (wTile arg5 harg5 x5) (wsTile arg6 harg6 x6) xc xs L js))) hidx).trans ((ih arg17.view.junk y).trans (if_neg fun hm => ?_))
      exact hj ((Fin.ext hy : (⟨(y 1).val / 256, by omega⟩ : Fin 35) = j) ▸ hm)
    · refine (View.read_writes_cons_miss_of_axis arg17.view f _ _ y 1 (256 * j.val) 256 rfl rfl rfl (by omega)).trans ?_
      rw [ih f y]
      have hiff : ((⟨(y 1).val / 256, by omega⟩ : Fin 35) ∈ j :: js) ↔ ((⟨(y 1).val / 256, by omega⟩ : Fin 35) ∈ js) := by
        rw [List.mem_cons]
        exact ⟨fun h => h.resolve_left fun e => hy (congrArg Fin.val e), Or.inr⟩
      simp only [hiff]

theorem L17_val (arg17 : Memref sig Kind.tc Space.vmem S8x8960 .f32) (f : arg17.view.ty.Contents (Elt Ideal)) (harg17 : arg17.IsWhole) (x17 : Vec Ideal S8x8960 .f32)
    (arg5 : Memref sig Kind.tc Space.vmem S1536x8960 .fp8e4m3) (harg5 : arg5.IsWhole) (x5 : Vec Ideal S1536x8960 .fp8e4m3)
    (arg6 : Memref sig Kind.tc Space.vmem S1x8960 .f32) (harg6 : arg6.IsWhole) (x6 : Vec Ideal S1x8960 .f32)
    (xcA : Vec Ideal S512x1536 .fp8e4m3) (xsA : Vec Ideal S512x128 .f32) (xcB : Vec Ideal S512x1536 .fp8e4m3) (xsB : Vec Ideal S512x128 .f32) :
    arg17.view.read (Elt Ideal) (arg17.view.writes (Elt Ideal) f (L17b arg17 (wTile arg5 harg5 x5) (wsTile arg6 harg6 x6) xcB xsB
        (L17a arg17 harg17 x17 (wTile arg5 harg5 x5) (wsTile arg6 harg6 x6) xcA xsA tiles35) tiles35))
      = amaxOf (amaxOf x17 xcA xsA x5 x6) xcB xsB x5 x6 := by
  funext y
  rw [L17b_val arg17 arg5 harg5 x5 arg6 harg6 x6 xcB xsB _ (amaxOf x17 xcA xsA x5 x6)
    (fun f => L17a_val arg17.view f arg17 harg17 x17 arg5 harg5 x5 arg6 harg6 x6 xcA xsA) tiles35 (by decide) f y, if_pos (mem_tiles35 _)]

/-! ## The rows of scales -/

/-- The 320 rows of scales after the eight rows of a row block are stored. -/
def rowsOf (n : ℕ) (x16 : Vec Ideal S320x128 .f32) (xsA xsB : Vec Ideal S512x128 .f32) : Vec Ideal S320x128 .f32 := fun y =>
  if 8 * n ≤ (y 0).val ∧ (y 0).val < 8 * n + 4 then
    xsA (ix2 ⟨(128 * ((y 0).val - 8 * n) + (y 1).val) % 512, Nat.mod_lt _ (by omega)⟩ (y 1))
  else if 8 * n + 4 ≤ (y 0).val ∧ (y 0).val < 8 * n + 8 then
    xsB (ix2 ⟨(128 * ((y 0).val - 8 * n - 4) + (y 1).val) % 512, Nat.mod_lt _ (by omega)⟩ (y 1))
  else x16 y

theorem diag_blk (b : Vec Ideal S128x128 .f32) (z : S1x128.Idx) : diag b z = b (ix2 (z 1) (z 1)) := by
  have hz : z = ix2 0 (z 1) := by
    funext a
    apply Fin.ext
    fin_cases a
    · have h : (z 0).val < 1 := (z 0).isLt
      show (z 0).val = 0; omega
    · rfl
  exact (congrArg (diag b) hz).trans (diag_apply b (z 1))

theorem mem4 (j : Fin 4) : j ∈ ([⟨3, by decide⟩, ⟨2, by decide⟩, ⟨1, by decide⟩, ⟨0, by decide⟩] : List (Fin 4)) := by revert j; decide

theorem L16_val (i : grid0.Coords) (arg16 : Memref sig Kind.tc Space.vmem S320x128 .f32) (harg16 : arg16.IsWhole) (x16 : Vec Ideal S320x128 .f32)
    (arg13 : Memref sig Kind.tc Space.vmem S512x128 .f32) (harg13 : arg13.IsWhole) (x13 : Vec Ideal S512x128 .f32)
    (arg15 : Memref sig Kind.tc Space.vmem S512x128 .f32) (L15 : List (View.Piece (Elt Ideal) S512x128 .f32)) (xsB : Vec Ideal S512x128 .f32)
    (h15 : ∀ f, arg15.view.read (Elt Ideal) (arg15.view.writes (Elt Ideal) f L15) = xsB) :
    arg16.view.read (Elt Ideal) (arg16.view.writes (Elt Ideal) (harg16.unread x16) (L16 i arg13 harg13 x13 arg15 L15)) = rowsOf (i 0).val x16 x13 xsB := by
  funext y
  have hy1 : (y 1).val < 128 := (y 1).isLt
  have o1 (j : Fin 4) := k0_off1_eq i j
  have o2 (j : Fin 4) := k0_off2_eq i j
  by_cases hy : 8 * (i 0).val ≤ (y 0).val ∧ (y 0).val < 8 * (i 0).val + 8
  · refine View.read_writes_apply_of_pieces arg16.view _ (rowsOf (i 0).val x16 x13 xsB) _ ?_ y ?_
    · intro p hp z
      rcases List.mem_append.1 hp with hp | hp
      · obtain ⟨j, _, rfl⟩ := List.mem_map.1 hp
        have hz0 : (z 0).val = 0 := by have : (z 0).val < 1 := (z 0).isLt; omega
        have hz1 : (z 1).val < 128 := (z 1).isLt
        have e0 : (((Rect.unit (s := S320x128) (k0_off2 i (BitVec.ofNat 32 j.val)) S1x128.size (k0_off2_inb i _)).emb z) 0).val = 8 * (i 0).val + 4 + j.val := by
          show k0_off2 i (BitVec.ofNat 32 j.val) 0 + 1 * (z 0).val = _
          rw [show k0_off2 i (BitVec.ofNat 32 j.val) 0 = 8 * (i 0).val + j.val + 4 from congrFun (o2 j) 0, hz0]; omega
        have e1 : (((Rect.unit (s := S320x128) (k0_off2 i (BitVec.ofNat 32 j.val)) S1x128.size (k0_off2_inb i _)).emb z) 1).val = (z 1).val := by
          show k0_off2 i (BitVec.ofNat 32 j.val) 1 + 1 * (z 1).val = _
          rw [show k0_off2 i (BitVec.ofNat 32 j.val) 1 = 0 from congrFun (o2 j) 1]; omega
        refine (diag_blk _ z).trans ?_
        refine (congrFun (h15 arg15.view.junk) _).trans ?_
        have hj := j.isLt
        show _ = rowsOf (i 0).val x16 x13 xsB ((Rect.unit (s := S320x128) (k0_off2 i (BitVec.ofNat 32 j.val)) S1x128.size (k0_off2_inb i _)).emb z)
        unfold rowsOf
        rw [if_neg (by rw [e0]; omega), if_pos (by rw [e0]; omega)]
        congr 1
        funext a
        apply Fin.ext
        fin_cases a
        · show 128 * j.val + 1 * (z 1).val = (128 * (_ - 8 * (i 0).val - 4) + _) % 512
          rw [e0, e1]; omega
        · show 0 + 1 * (z 1).val = _
          exact (by omega : 0 + 1 * (z 1).val = (z 1).val).trans e1.symm
      · obtain ⟨j, _, rfl⟩ := List.mem_map.1 hp
        have hz0 : (z 0).val = 0 := by have : (z 0).val < 1 := (z 0).isLt; omega
        have hz1 : (z 1).val < 128 := (z 1).isLt
        have e0 : (((Rect.unit (s := S320x128) (k0_off1 i (BitVec.ofNat 32 j.val)) S1x128.size (k0_off1_inb i _)).emb z) 0).val = 8 * (i 0).val + j.val := by
          show k0_off1 i (BitVec.ofNat 32 j.val) 0 + 1 * (z 0).val = _
          rw [show k0_off1 i (BitVec.ofNat 32 j.val) 0 = 8 * (i 0).val + j.val from congrFun (o1 j) 0, hz0]; omega
        have e1 : (((Rect.unit (s := S320x128) (k0_off1 i (BitVec.ofNat 32 j.val)) S1x128.size (k0_off1_inb i _)).emb z) 1).val = (z 1).val := by
          show k0_off1 i (BitVec.ofNat 32 j.val) 1 + 1 * (z 1).val = _
          rw [show k0_off1 i (BitVec.ofNat 32 j.val) 1 = 0 from congrFun (o1 j) 1]; omega
        refine (diag_blk _ z).trans ?_
        rw [Memref.IsWhole.readAt_unread]
        have hj := j.isLt
        show _ = rowsOf (i 0).val x16 x13 xsB ((Rect.unit (s := S320x128) (k0_off1 i (BitVec.ofNat 32 j.val)) S1x128.size (k0_off1_inb i _)).emb z)
        unfold rowsOf
        rw [if_pos (by rw [e0]; omega)]
        congr 1
        funext a
        apply Fin.ext
        fin_cases a
        · show 128 * j.val + 1 * (z 1).val = (128 * (_ - 8 * (i 0).val) + _) % 512
          rw [e0, e1]; omega
        · show 0 + 1 * (z 1).val = _
          exact (by omega : 0 + 1 * (z 1).val = (z 1).val).trans e1.symm
    · by_cases hy4 : (y 0).val < 8 * (i 0).val + 4
      · refine ⟨_, List.mem_append.2 (Or.inr (List.mem_map_of_mem (mem4 ⟨(y 0).val - 8 * (i 0).val, by omega⟩))), ?_⟩
        refine (Rect.mem_set_unit (inb := k0_off1_inb i _)).2 fun a => ?_
        rw [o1 ⟨(y 0).val - 8 * (i 0).val, by omega⟩]
        fin_cases a
        · show 8 * (i 0).val + ((y 0).val - 8 * (i 0).val) ≤ (y 0).val ∧ (y 0).val < 8 * (i 0).val + ((y 0).val - 8 * (i 0).val) + 1; omega
        · show 0 ≤ (y 1).val ∧ (y 1).val < 0 + 128; omega
      · refine ⟨_, List.mem_append.2 (Or.inl (List.mem_map_of_mem (mem4 ⟨(y 0).val - 8 * (i 0).val - 4, by omega⟩))), ?_⟩
        refine (Rect.mem_set_unit (inb := k0_off2_inb i _)).2 fun a => ?_
        rw [o2 ⟨(y 0).val - 8 * (i 0).val - 4, by omega⟩]
        fin_cases a
        · show 8 * (i 0).val + ((y 0).val - 8 * (i 0).val - 4) + 4 ≤ (y 0).val ∧ (y 0).val < 8 * (i 0).val + ((y 0).val - 8 * (i 0).val - 4) + 4 + 1; omega
        · show 0 ≤ (y 1).val ∧ (y 1).val < 0 + 128; omega
  · rw [View.read_writes_apply_of_forall_not_mem]
    · unfold rowsOf
      rw [if_neg (by omega), if_neg (by omega)]
      exact congrFun (harg16.read_unread x16) y
    · intro p hp hmem
      apply hy
      rcases List.mem_append.1 hp with hp | hp
      · obtain ⟨j, _, rfl⟩ := List.mem_map.1 hp
        have h := (Rect.mem_set_unit (inb := k0_off2_inb i _)).1 hmem 0
        rw [o2 j] at h
        have hj := j.isLt
        have h : 8 * (i 0).val + j.val + 4 ≤ (y 0).val ∧ (y 0).val < 8 * (i 0).val + j.val + 4 + 1 := h
        omega
      · obtain ⟨j, _, rfl⟩ := List.mem_map.1 hp
        have h := (Rect.mem_set_unit (inb := k0_off1_inb i _)).1 hmem 0
        rw [o1 j] at h
        have hj := j.isLt
        have h : 8 * (i 0).val + j.val ≤ (y 0).val ∧ (y 0).val < 8 * (i 0).val + j.val + 1 := h
        omega

/-! ## The other outputs -/

/-- A list of one piece that is the whole, read back. -/
theorem whole_val {sp : Space} {s : Shape} {e : EltTy} (v : View sig Kind.tc sp s e) (f : v.ty.Contents (Elt Ideal)) (off : Fin s.rank → ℕ)
    (hoff : ∀ a, off a = 0) (inb) (w : Vec Ideal s e) :
    v.read (Elt Ideal) (v.writes (Elt Ideal) f [⟨Rect.unit (s := s) off s.size inb, w⟩]) = w := by
  funext y
  exact View.read_writes_cons_hit_of_coords v f (Rect.unit (s := s) off s.size inb) w [] y y fun a => by
    show (y a).val = off a + 1 * (y a).val
    rw [hoff a]; omega

/-- The 320 rows of scales laid out as 20 by 16 rows of 128. -/
def xsOut (x16 : Vec Ideal S320x128 .f32) : Vec Ideal S20x2048 .f32 := fun y =>
  x16 (ix2 ⟨16 * (y 0).val + (y 1).val / 128, by have h0 : (y 0).val < 20 := (y 0).isLt; have h1 : (y 1).val < 2048 := (y 1).isLt; omega⟩
    ⟨(y 1).val % 128, Nat.mod_lt _ (by omega)⟩)

theorem L11_val {sp : Space} (v : View sig Kind.tc sp S20x2048 .f32) (f : v.ty.Contents (Elt Ideal))
    (arg16 : Memref sig Kind.tc Space.vmem S320x128 .f32) (harg16 : arg16.IsWhole) (x16 : Vec Ideal S320x128 .f32)
    (js : List (Fin 320)) (hjs : ∀ j, j ∈ js) :
    v.read (Elt Ideal) (v.writes (Elt Ideal) f (js.map (L11p arg16 harg16 x16))) = xsOut x16 := by
  funext y
  have h0 : (y 0).val < 20 := (y 0).isLt
  have h1 : (y 1).val < 2048 := (y 1).isLt
  refine View.read_writes_apply_of_pieces v f (xsOut x16) _ ?_ y ?_
  · intro p hp z
    obtain ⟨j, _, rfl⟩ := List.mem_map.1 hp
    have hj := j.isLt
    have hz0 : (z 0).val = 0 := by have : (z 0).val < 1 := (z 0).isLt; omega
    have hz1 : (z 1).val < 128 := (z 1).isLt
    refine (Memref.IsWhole.readAt_unread harg16 x16 (Rect.unit (s := S320x128) ![j.val, 0] S1x128.size (inb16 j)).toLoadRect z).trans ?_
    unfold xsOut
    refine congrArg x16 ?_
    funext a
    apply Fin.ext
    fin_cases a
    · show j.val + 1 * (z 0).val = 16 * (j.val / 16 + 1 * (z 0).val) + (128 * (j.val % 16) + 1 * (z 1).val) / 128; omega
    · show 0 + 1 * (z 1).val = (128 * (j.val % 16) + 1 * (z 1).val) % 128; omega
  · refine ⟨_, List.mem_map_of_mem (hjs ⟨16 * (y 0).val + (y 1).val / 128, by omega⟩), ?_⟩
    refine (Rect.mem_set_unit (inb := inb11 _)).2 fun a => ?_
    fin_cases a
    · show (16 * (y 0).val + (y 1).val / 128) / 16 ≤ (y 0).val ∧ (y 0).val < (16 * (y 0).val + (y 1).val / 128) / 16 + 1; omega
    · show 128 * ((16 * (y 0).val + (y 1).val / 128) % 16) ≤ (y 1).val ∧ (y 1).val < 128 * ((16 * (y 0).val + (y 1).val / 128) % 16) + 128; omega

end Cert.KernelIdeal.Gen
-- ==== Proof.State.lean ====
/- What the kernel carries from point to point, and what each output holds, as functions of the arrays. -/
module

public import proofs.«01_k».proof.Proof.Vals

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- The grid's point of number `n`. -/
def pt (n : ℕ) : Fin cfg0.N := ⟨n % 40, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

/-- The input blocks at a point: the history, three blocks of rows, the weights, the weights' scales. -/
abbrev bH (c : Dev nD) (t : Fin cfg0.N) : Vec Ideal S16 .f32 := iblk m c 0 t
abbrev bX (c : Dev nD) (t : Fin cfg0.N) : Vec Ideal S512x1536 .bf16 := iblk m c 1 t
abbrev bB (c : Dev nD) (t : Fin cfg0.N) : Vec Ideal S512x1536 .bf16 := iblk m c 2 t
abbrev bA (c : Dev nD) (t : Fin cfg0.N) : Vec Ideal S512x1536 .bf16 := iblk m c 3 t
abbrev bW (c : Dev nD) (t : Fin cfg0.N) : Vec Ideal S1536x8960 .fp8e4m3 := iblk m c 4 t
abbrev bWs (c : Dev nD) (t : Fin cfg0.N) : Vec Ideal S1x8960 .f32 := iblk m c 5 t

/-- The block of rows whose codes are carried into point `n`. -/
def XAn (c : Dev nD) : ℕ → Vec Ideal S512x1536 .bf16
  | 0 => bX m c (pt 0)
  | n + 1 => bA m c (pt n)

/-- The maxima carried into point `n`. -/
def am (c : Dev nD) : ℕ → Vec Ideal S8x8960 .f32
  | 0 => fun _ => 0
  | n + 1 => amaxOf (amaxOf (am c n) (xcOf (XAn m c n)) (xsOf (XAn m c n)) (bW m c (pt n)) (bWs m c (pt n)))
      (xcOf (bB m c (pt n))) (xsOf (bB m c (pt n))) (bW m c (pt n)) (bWs m c (pt n))

/-- The rows of scales, once all are stored. -/
def rowAt (c : Dev nD) : Vec Ideal S320x128 .f32 := fun y =>
  if (y 0).val % 8 < 4 then xsOf (XAn m c ((y 0).val / 8)) (ix2 ⟨(128 * ((y 0).val % 8) + (y 1).val) % 512, Nat.mod_lt _ (by omega)⟩ (y 1))
  else xsOf (bB m c (pt ((y 0).val / 8))) (ix2 ⟨(128 * ((y 0).val % 8 - 4) + (y 1).val) % 512, Nat.mod_lt _ (by omega)⟩ (y 1))

/-- Before point `n` the rows of the points before are stored. -/
def RowsOK (c : Dev nD) (n : ℕ) (d : Vec Ideal S320x128 .f32) : Prop := ∀ y : S320x128.Idx, (y 0).val < 8 * n → d y = rowAt m c y

theorem RowsOK_zero (c : Dev nD) (d : Vec Ideal S320x128 .f32) : RowsOK m c 0 d := fun y h => absurd h (by omega)

theorem rowAt_lo (c : Dev nD) (y : S320x128.Idx) (n k : ℕ) (hn : (y 0).val / 8 = n) (hk : (y 0).val % 8 = k) (h : k < 4) :
    rowAt m c y = xsOf (XAn m c n) (ix2 ⟨(128 * k + (y 1).val) % 512, Nat.mod_lt _ (by omega)⟩ (y 1)) := by
  subst hn hk; exact if_pos h

theorem rowAt_hi (c : Dev nD) (y : S320x128.Idx) (n k : ℕ) (hn : (y 0).val / 8 = n) (hk : (y 0).val % 8 - 4 = k) (h : ¬ (y 0).val % 8 < 4) :
    rowAt m c y = xsOf (bB m c (pt n)) (ix2 ⟨(128 * k + (y 1).val) % 512, Nat.mod_lt _ (by omega)⟩ (y 1)) := by
  subst hn hk; exact if_neg h

theorem RowsOK_succ (c : Dev nD) (n : ℕ) (d : Vec Ideal S320x128 .f32) (h : RowsOK m c n d) :
    RowsOK m c (n + 1) (rowsOf n d (xsOf (XAn m c n)) (xsOf (bB m c (pt n)))) := fun y hy => by
  unfold rowsOf
  by_cases h1 : (y 0).val < 8 * n
  · refine (if_neg (by omega)).trans ((if_neg (by omega)).trans ?_)
    exact h y h1
  · by_cases h2 : (y 0).val < 8 * n + 4
    · exact (if_pos (by omega)).trans (rowAt_lo m c y n ((y 0).val - 8 * n) (by omega) (by omega) (by omega)).symm
    · refine (if_neg (by omega)).trans ((if_pos (by omega)).trans ?_)
      exact (rowAt_hi m c y n ((y 0).val - 8 * n - 4) (by omega) (by omega) (by omega)).symm

theorem RowsOK_all (c : Dev nD) (d : Vec Ideal S320x128 .f32) (h : RowsOK m c 40 d) : d = rowAt m c :=
  funext fun y => h y (by have h0 : (y 0).val < 320 := (y 0).isLt; omega)

/-- The five outputs' blocks after point `t`. -/
def o6 (c : Dev nD) (t : Fin cfg0.N) : Vec Ideal S1024x8960 .fp8e4m3 :=
  ycOf (bH m c t) (bW m c t) (bWs m c t) (xcOf (XAn m c t.val)) (xsOf (XAn m c t.val)) (xcOf (bB m c t)) (xsOf (bB m c t))
def o7 (c : Dev nD) : Vec Ideal S1x1 .f32 := fun _ => scl (tH (bH m c (pt 0)))
def o8 (c : Dev nD) : Vec Ideal S1x1 .f32 :=
  fun _ => Finset.fold max (Ideal.ofBits .f32 0xFF800000#32) (fun p : Fin 8 × Fin 8960 => am m c 40 (ix2 p.1 p.2)) Finset.univ
def o9 (c : Dev nD) (t : Fin cfg0.N) : Vec Ideal S1024x1536 .fp8e4m3 := xcPair (xcOf (XAn m c t.val)) (xcOf (bB m c t))
def o10 (c : Dev nD) : Vec Ideal S20x2048 .f32 := xsOut (rowAt m c)

end Cert.KernelIdeal.Gen
-- ==== Proof.BodyOwn.lean ====
/- What the branches of the body do when they are not taken. -/
module

public import proofs.«01_k».proof.Proof.Vals

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem readAll17 (m : Memref sig Kind.tc Space.vmem S8x8960 .f32) (hm : m.IsWhole) (x : Vec Ideal S8x8960 .f32) :
    View.readAt (Elt Ideal) m.view (Rect.unit (s := S8x8960) ![0, 0] S8x8960.size inb_S8x8960_S8x8960_0_0).toLoadRect (hm.unread x) = x := by
  funext y
  rw [Memref.IsWhole.readAt_unread]
  congr 1
  funext a
  apply Fin.ext
  fin_cases a
  · show 0 + 1 * (y 0).val = (y 0).val; omega
  · show 0 + 1 * (y 1).val = (y 1).val; omega

/-! What the body does at a point, with every buffer's contents named. -/

/-- A buffer stored piece by piece holds what the pieces read back as. -/
theorem owns_of_pieces (c : Dev nD) {sp : Space} {s : Shape} {e : EltTy} (m : Memref sig .tc sp s e) (L : List (View.Piece (Elt Ideal) s e))
    (X : Vec Ideal s e) (h : ∀ f, m.view.read (Elt Ideal) (m.view.writes (Elt Ideal) f L) = X) :
    iprop(∃ f, m.view.loc (c : Thread nD τ) ↦[m.view.set]{fullShare} m.view.writes (Elt Ideal) f L) ⊢ (owns (c : Thread nD τ) m fullShare X : sProp 𝕄) := by
  unfold owns
  iintro ⟨%f, H⟩
  iexists _; isplitr
  swap; · iexact H
  ipureintro; exact h f

/-- The first branch at a later point: nothing. -/
theorem pro_later (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : ¬ k0_cond1 i = 1#1)
    (x1 : Vec Ideal S16 .f32) (x2 : Vec Ideal S512x1536 .bf16) (d8 : Vec Ideal S1x1 .f32) (d12 : Vec Ideal S512x1536 .fp8e4m3) (d13 : Vec Ideal S512x128 .f32) (d17 : Vec Ideal S8x8960 .f32) (E : Set ℕ) (Q : PUnit → sProp 𝕄) :
    iprop(owns (c : Thread nD τ) arg2 fullShare x2 ∗ owns (c : Thread nD τ) arg8 fullShare d8 ∗ owns (c : Thread nD τ) arg12 fullShare d12 ∗ owns (c : Thread nD τ) arg13 fullShare d13 ∗ owns (c : Thread nD τ) arg17 fullShare d17 ∗ (iprop(owns (c : Thread nD τ) arg2 fullShare x2 ∗ owns (c : Thread nD τ) arg8 fullShare d8 ∗ owns (c : Thread nD τ) arg12 fullShare d12 ∗ owns (c : Thread nD τ) arg13 fullShare d13 ∗ owns (c : Thread nD τ) arg17 fullShare d17) -∗ Q ⟨⟩))
      ⊢ wp frame (wpE (defs₀ (F := Ideal)) Variants.none c none) E (pro i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (histVec arg1 harg1 x1) k0_pay100) Q := by
  unfold pro
  rw [dif_neg hc0]
  iintro ⟨H2, H8, H12, H13, H17, Hk⟩
  sl_step
  iapply Hk
  isplitl [H2]; · iexact H2
  isplitl [H8]; · iexact H8
  isplitl [H12]; · iexact H12
  isplitl [H13]; · iexact H13
  iexact H17

/-- The last branch before the last point: nothing. -/
theorem epi_early (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc1 : ¬ k0_cond2 i = 1#1) (E : Set ℕ) (Q : PUnit → sProp 𝕄) :
    Q ⟨⟩ ⊢ wp frame (wpE (defs₀ (F := Ideal)) Variants.none c none) E (epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  unfold epi
  rw [dif_neg hc1]
  iintro Hk
  sl_step
  iexact Hk

end Cert.KernelIdeal.Gen
-- ==== Proof.BodyPro.lean ====
/- What the first branch of the body does at the first point. -/
module

public import proofs.«01_k».proof.Proof.BodyOwn

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The first branch at the first point: the scale of the outputs, the first block's codes and scales, the maxima at zero. -/
theorem pro_first (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc0 : k0_cond1 i = 1#1)
    (x1 : Vec Ideal S16 .f32) (x2 : Vec Ideal S512x1536 .bf16) (d8 : Vec Ideal S1x1 .f32) (d12 : Vec Ideal S512x1536 .fp8e4m3) (d13 : Vec Ideal S512x128 .f32) (d17 : Vec Ideal S8x8960 .f32) (E : Set ℕ) (Q : PUnit → sProp 𝕄) :
    iprop(owns (c : Thread nD τ) arg2 fullShare x2 ∗ owns (c : Thread nD τ) arg8 fullShare d8 ∗ owns (c : Thread nD τ) arg12 fullShare d12 ∗ owns (c : Thread nD τ) arg13 fullShare d13 ∗ owns (c : Thread nD τ) arg17 fullShare d17 ∗ (iprop(owns (c : Thread nD τ) arg2 fullShare x2 ∗ owns (c : Thread nD τ) arg8 fullShare (fun _ => scl (tH x1) : Vec Ideal S1x1 .f32) ∗ owns (c : Thread nD τ) arg12 fullShare (xcOf x2) ∗ owns (c : Thread nD τ) arg13 fullShare (xsOf x2) ∗ owns (c : Thread nD τ) arg17 fullShare (fun _ => 0 : Vec Ideal S8x8960 .f32)) -∗ Q ⟨⟩))
      ⊢ wp frame (wpE (defs₀ (F := Ideal)) Variants.none c none) E (pro i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (histVec arg1 harg1 x1) k0_pay100) Q := by
  iintro ⟨H2, H8, H12, H13, H17, Hk⟩
  have e8 := pro8_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (histVec arg1 harg1 x1) k0_pay100 hc0 x2 d8 d12 d13 d17
  have e12 := pro12_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (histVec arg1 harg1 x1) k0_pay100 hc0 x2 d8 d12 d13 d17
  have e13 := pro13_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (histVec arg1 harg1 x1) k0_pay100 hc0 x2 d8 d12 d13 d17
  have e17 := pro17_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (histVec arg1 harg1 x1) k0_pay100 hc0 x2 d8 d12 d13 d17
  generalize proRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (histVec arg1 harg1 x1) k0_pay100 hc0 x2 d8 d12 d13 d17 = r at e8 e12 e13 e17
  obtain ⟨L8, L12, L13, L17, hr⟩ := r
  dsimp only at e8 e12 e13 e17
  have h8 : ∀ f, arg8.view.read (Elt Ideal) (arg8.view.writes (Elt Ideal) f L8) = (fun _ => scl (tH x1) : Vec Ideal S1x1 .f32) := fun f => by
    rw [e8]
    refine (whole_val (s := S1x1) _ _ ![0, 0] (by decide) _ _).trans ((pay4_apply _).trans ?_)
    funext y
    exact (scale_apply _ _).trans (congrArg scl (histVec_apply _ _ _ _))
  have h12 : ∀ f, arg12.view.read (Elt Ideal) (arg12.view.writes (Elt Ideal) f L12) = xcOf x2 := fun f => by
    rw [e12]; exact LC_val _ _ _ _ _
  have h13 : ∀ f, arg13.view.read (Elt Ideal) (arg13.view.writes (Elt Ideal) f L13) = xsOf x2 := fun f => by
    rw [e13]; exact LS_val _ _ _ _ _
  have h17 : ∀ f, arg17.view.read (Elt Ideal) (arg17.view.writes (Elt Ideal) f L17) = (fun _ => 0 : Vec Ideal S8x8960 .f32) := fun f => by
    rw [e17]; exact (whole_val (s := S8x8960) _ _ ![0, 0] (by decide) _ _).trans pay3_apply
  clear e8 e12 e13 e17
  iapply (hr E Q)
  isplitl [H2]; · iexact H2
  isplitl [H8]; · iexact H8
  isplitl [H12]; · iexact H12
  isplitl [H13]; · iexact H13
  isplitl [H17]; · iexact H17
  iintro ⟨H2, H8, H12, H13, H17⟩
  iapply Hk
  isplitl [H2]; · iexact H2
  isplitl [H8]
  · iapply (owns_of_pieces c arg8 _ _ h8)
    iexact H8
  isplitl [H12]
  · iapply (owns_of_pieces c arg12 _ _ h12)
    iexact H12
  isplitl [H13]
  · iapply (owns_of_pieces c arg13 _ _ h13)
    iexact H13
  iapply (owns_of_pieces c arg17 _ _ h17)
  iexact H17

end Cert.KernelIdeal.Gen
-- ==== Proof.BodyEpi.lean ====
/- What the last branch of the body does at the last point. -/
module

public import proofs.«01_k».proof.Proof.BodyOwn

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem mem_rows : ∀ j : Fin 320, j ∈ ([⟨319, by decide⟩, ⟨318, by decide⟩, ⟨317, by decide⟩, ⟨316, by decide⟩, ⟨315, by decide⟩, ⟨314, by decide⟩, ⟨313, by decide⟩, ⟨312, by decide⟩, ⟨311, by decide⟩, ⟨310, by decide⟩, ⟨309, by decide⟩, ⟨308, by decide⟩, ⟨307, by decide⟩, ⟨306, by decide⟩, ⟨305, by decide⟩, ⟨304, by decide⟩, ⟨303, by decide⟩, ⟨302, by decide⟩, ⟨301, by decide⟩, ⟨300, by decide⟩, ⟨299, by decide⟩, ⟨298, by decide⟩, ⟨297, by decide⟩, ⟨296, by decide⟩, ⟨295, by decide⟩, ⟨294, by decide⟩, ⟨293, by decide⟩, ⟨292, by decide⟩, ⟨291, by decide⟩, ⟨290, by decide⟩, ⟨289, by decide⟩, ⟨288, by decide⟩, ⟨287, by decide⟩, ⟨286, by decide⟩, ⟨285, by decide⟩, ⟨284, by decide⟩, ⟨283, by decide⟩, ⟨282, by decide⟩, ⟨281, by decide⟩, ⟨280, by decide⟩, ⟨279, by decide⟩, ⟨278, by decide⟩, ⟨277, by decide⟩, ⟨276, by decide⟩, ⟨275, by decide⟩, ⟨274, by decide⟩, ⟨273, by decide⟩, ⟨272, by decide⟩, ⟨271, by decide⟩, ⟨270, by decide⟩, ⟨269, by decide⟩, ⟨268, by decide⟩, ⟨267, by decide⟩, ⟨266, by decide⟩, ⟨265, by decide⟩, ⟨264, by decide⟩, ⟨263, by decide⟩, ⟨262, by decide⟩, ⟨261, by decide⟩, ⟨260, by decide⟩, ⟨259, by decide⟩, ⟨258, by decide⟩, ⟨257, by decide⟩, ⟨256, by decide⟩, ⟨255, by decide⟩, ⟨254, by decide⟩, ⟨253, by decide⟩, ⟨252, by decide⟩, ⟨251, by decide⟩, ⟨250, by decide⟩, ⟨249, by decide⟩, ⟨248, by decide⟩, ⟨247, by decide⟩, ⟨246, by decide⟩, ⟨245, by decide⟩, ⟨244, by decide⟩, ⟨243, by decide⟩, ⟨242, by decide⟩, ⟨241, by decide⟩, ⟨240, by decide⟩, ⟨239, by decide⟩, ⟨238, by decide⟩, ⟨237, by decide⟩, ⟨236, by decide⟩, ⟨235, by decide⟩, ⟨234, by decide⟩, ⟨233, by decide⟩, ⟨232, by decide⟩, ⟨231, by decide⟩, ⟨230, by decide⟩, ⟨229, by decide⟩, ⟨228, by decide⟩, ⟨227, by decide⟩, ⟨226, by decide⟩, ⟨225, by decide⟩, ⟨224, by decide⟩, ⟨223, by decide⟩, ⟨222, by decide⟩, ⟨221, by decide⟩, ⟨220, by decide⟩, ⟨219, by decide⟩, ⟨218, by decide⟩, ⟨217, by decide⟩, ⟨216, by decide⟩, ⟨215, by decide⟩, ⟨214, by decide⟩, ⟨213, by decide⟩, ⟨212, by decide⟩, ⟨211, by decide⟩, ⟨210, by decide⟩, ⟨209, by decide⟩, ⟨208, by decide⟩, ⟨207, by decide⟩, ⟨206, by decide⟩, ⟨205, by decide⟩, ⟨204, by decide⟩, ⟨203, by decide⟩, ⟨202, by decide⟩, ⟨201, by decide⟩, ⟨200, by decide⟩, ⟨199, by decide⟩, ⟨198, by decide⟩, ⟨197, by decide⟩, ⟨196, by decide⟩, ⟨195, by decide⟩, ⟨194, by decide⟩, ⟨193, by decide⟩, ⟨192, by decide⟩, ⟨191, by decide⟩, ⟨190, by decide⟩, ⟨189, by decide⟩, ⟨188, by decide⟩, ⟨187, by decide⟩, ⟨186, by decide⟩, ⟨185, by decide⟩, ⟨184, by decide⟩, ⟨183, by decide⟩, ⟨182, by decide⟩, ⟨181, by decide⟩, ⟨180, by decide⟩, ⟨179, by decide⟩, ⟨178, by decide⟩, ⟨177, by decide⟩, ⟨176, by decide⟩, ⟨175, by decide⟩, ⟨174, by decide⟩, ⟨173, by decide⟩, ⟨172, by decide⟩, ⟨171, by decide⟩, ⟨170, by decide⟩, ⟨169, by decide⟩, ⟨168, by decide⟩, ⟨167, by decide⟩, ⟨166, by decide⟩, ⟨165, by decide⟩, ⟨164, by decide⟩, ⟨163, by decide⟩, ⟨162, by decide⟩, ⟨161, by decide⟩, ⟨160, by decide⟩, ⟨159, by decide⟩, ⟨158, by decide⟩, ⟨157, by decide⟩, ⟨156, by decide⟩, ⟨155, by decide⟩, ⟨154, by decide⟩, ⟨153, by decide⟩, ⟨152, by decide⟩, ⟨151, by decide⟩, ⟨150, by decide⟩, ⟨149, by decide⟩, ⟨148, by decide⟩, ⟨147, by decide⟩, ⟨146, by decide⟩, ⟨145, by decide⟩, ⟨144, by decide⟩, ⟨143, by decide⟩, ⟨142, by decide⟩, ⟨141, by decide⟩, ⟨140, by decide⟩, ⟨139, by decide⟩, ⟨138, by decide⟩, ⟨137, by decide⟩, ⟨136, by decide⟩, ⟨135, by decide⟩, ⟨134, by decide⟩, ⟨133, by decide⟩, ⟨132, by decide⟩, ⟨131, by decide⟩, ⟨130, by decide⟩, ⟨129, by decide⟩, ⟨128, by decide⟩, ⟨127, by decide⟩, ⟨126, by decide⟩, ⟨125, by decide⟩, ⟨124, by decide⟩, ⟨123, by decide⟩, ⟨122, by decide⟩, ⟨121, by decide⟩, ⟨120, by decide⟩, ⟨119, by decide⟩, ⟨118, by decide⟩, ⟨117, by decide⟩, ⟨116, by decide⟩, ⟨115, by decide⟩, ⟨114, by decide⟩, ⟨113, by decide⟩, ⟨112, by decide⟩, ⟨111, by decide⟩, ⟨110, by decide⟩, ⟨109, by decide⟩, ⟨108, by decide⟩, ⟨107, by decide⟩, ⟨106, by decide⟩, ⟨105, by decide⟩, ⟨104, by decide⟩, ⟨103, by decide⟩, ⟨102, by decide⟩, ⟨101, by decide⟩, ⟨100, by decide⟩, ⟨99, by decide⟩, ⟨98, by decide⟩, ⟨97, by decide⟩, ⟨96, by decide⟩, ⟨95, by decide⟩, ⟨94, by decide⟩, ⟨93, by decide⟩, ⟨92, by decide⟩, ⟨91, by decide⟩, ⟨90, by decide⟩, ⟨89, by decide⟩, ⟨88, by decide⟩, ⟨87, by decide⟩, ⟨86, by decide⟩, ⟨85, by decide⟩, ⟨84, by decide⟩, ⟨83, by decide⟩, ⟨82, by decide⟩, ⟨81, by decide⟩, ⟨80, by decide⟩, ⟨79, by decide⟩, ⟨78, by decide⟩, ⟨77, by decide⟩, ⟨76, by decide⟩, ⟨75, by decide⟩, ⟨74, by decide⟩, ⟨73, by decide⟩, ⟨72, by decide⟩, ⟨71, by decide⟩, ⟨70, by decide⟩, ⟨69, by decide⟩, ⟨68, by decide⟩, ⟨67, by decide⟩, ⟨66, by decide⟩, ⟨65, by decide⟩, ⟨64, by decide⟩, ⟨63, by decide⟩, ⟨62, by decide⟩, ⟨61, by decide⟩, ⟨60, by decide⟩, ⟨59, by decide⟩, ⟨58, by decide⟩, ⟨57, by decide⟩, ⟨56, by decide⟩, ⟨55, by decide⟩, ⟨54, by decide⟩, ⟨53, by decide⟩, ⟨52, by decide⟩, ⟨51, by decide⟩, ⟨50, by decide⟩, ⟨49, by decide⟩, ⟨48, by decide⟩, ⟨47, by decide⟩, ⟨46, by decide⟩, ⟨45, by decide⟩, ⟨44, by decide⟩, ⟨43, by decide⟩, ⟨42, by decide⟩, ⟨41, by decide⟩, ⟨40, by decide⟩, ⟨39, by decide⟩, ⟨38, by decide⟩, ⟨37, by decide⟩, ⟨36, by decide⟩, ⟨35, by decide⟩, ⟨34, by decide⟩, ⟨33, by decide⟩, ⟨32, by decide⟩, ⟨31, by decide⟩, ⟨30, by decide⟩, ⟨29, by decide⟩, ⟨28, by decide⟩, ⟨27, by decide⟩, ⟨26, by decide⟩, ⟨25, by decide⟩, ⟨24, by decide⟩, ⟨23, by decide⟩, ⟨22, by decide⟩, ⟨21, by decide⟩, ⟨20, by decide⟩, ⟨19, by decide⟩, ⟨18, by decide⟩, ⟨17, by decide⟩, ⟨16, by decide⟩, ⟨15, by decide⟩, ⟨14, by decide⟩, ⟨13, by decide⟩, ⟨12, by decide⟩, ⟨11, by decide⟩, ⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] : List (Fin 320)) := by decide +kernel

set_option maxHeartbeats 4000000 in
/-- The last branch at the last point: the largest of the maxima, and the rows of scales laid out. -/
theorem epi_last (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole) (hc1 : k0_cond2 i = 1#1)
    (x9 : Vec Ideal S1x1 .f32) (x11 : Vec Ideal S20x2048 .f32) (x16 : Vec Ideal S320x128 .f32) (x17 : Vec Ideal S8x8960 .f32) (E : Set ℕ) (Q : PUnit → sProp 𝕄) :
    iprop(owns (c : Thread nD τ) arg9 fullShare x9 ∗ owns (c : Thread nD τ) arg11 fullShare x11 ∗ owns (c : Thread nD τ) arg16 fullShare x16 ∗ owns (c : Thread nD τ) arg17 fullShare x17 ∗ (iprop(owns (c : Thread nD τ) arg9 fullShare (fun _ => Finset.fold max (Ideal.ofBits .f32 0xFF800000#32) (fun p : Fin 8 × Fin 8960 => x17 (ix2 p.1 p.2)) Finset.univ : Vec Ideal S1x1 .f32) ∗ owns (c : Thread nD τ) arg11 fullShare (xsOut x16) ∗ owns (c : Thread nD τ) arg16 fullShare x16 ∗ owns (c : Thread nD τ) arg17 fullShare x17) -∗ Q ⟨⟩))
      ⊢ wp frame (wpE (defs₀ (F := Ideal)) Variants.none c none) E (epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  iintro ⟨H9, H11, H16, H17, Hk⟩
  have e9 := epi9_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x9 x11 x16 x17
  have e11 := epi11_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x9 x11 x16 x17
  generalize epiRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x9 x11 x16 x17 = r at e9 e11
  obtain ⟨L9, L11, hr⟩ := r
  dsimp only at e9 e11
  have h9 : ∀ f, arg9.view.read (Elt Ideal) (arg9.view.writes (Elt Ideal) f L9) = (fun _ => Finset.fold max (Ideal.ofBits .f32 0xFF800000#32) (fun p : Fin 8 × Fin 8960 => x17 (ix2 p.1 p.2)) Finset.univ : Vec Ideal S1x1 .f32) := fun f => by
    rw [e9, readAll17]
    exact (whole_val (s := S1x1) _ _ ![0, 0] (by decide) _ _).trans (pay98_apply _)
  have h11 : ∀ f, arg11.view.read (Elt Ideal) (arg11.view.writes (Elt Ideal) f L11) = xsOut x16 := fun f => by
    rw [e11]; exact L11_val _ _ _ _ _ _ mem_rows
  clear e9 e11
  iapply (hr E Q)
  isplitl [H9]; · iexact H9
  isplitl [H11]; · iexact H11
  isplitl [H16]; · iexact H16
  isplitl [H17]; · iexact H17
  iintro ⟨H16, H17, H9, H11⟩
  iapply Hk
  isplitl [H9]
  · iapply (owns_of_pieces c arg9 _ _ h9)
    iexact H9
  isplitl [H11]
  · iapply (owns_of_pieces c arg11 _ _ h11)
    iexact H11
  isplitl [H16]; · iexact H16
  iexact H17

end Cert.KernelIdeal.Gen
-- ==== Proof.BodyMain.lean ====
/- What the body does between its branches, with the contents of every buffer named. -/
module

public import proofs.«01_k».proof.Proof.BodyOwn

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A dependent tuple with six of its components known, opened. -/
theorem sig8 {A B C D E G H I : Type} {P : A → B → C → D → E → G → H → I → Prop}
    (r : Σ' (a : A), Σ' (b : B), Σ' (c : C), Σ' (d : D), Σ' (e : E), Σ' (g : G), Σ' (h : H), { i : I // P a b c d e g h i })
    {a : A} {b : B} {c : C} {d : D} {h : H} {i : I}
    (e1 : r.1 = a) (e2 : r.2.1 = b) (e3 : r.2.2.1 = c) (e4 : r.2.2.2.1 = d) (e5 : r.2.2.2.2.2.2.1 = h) (e6 : r.2.2.2.2.2.2.2.1 = i) :
    ∃ a' b' c' d' e' g' h' i', a' = a ∧ b' = b ∧ c' = c ∧ d' = d ∧ h' = h ∧ i' = i ∧ P a' b' c' d' e' g' h' i' :=
  ⟨_, _, _, _, _, _, _, _, e1, e2, e3, e4, e5, e6, r.2.2.2.2.2.2.2.2⟩

set_option maxHeartbeats 8000000 in
/-- The body between its branches. -/
theorem main_spec (c : Dev nD) (i : grid0.Coords) (arg1 : Memref sig .tc .smem S16 .f32) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S1536x8960 .fp8e4m3) (harg5 : arg5.IsWhole) (arg6 : Memref sig .tc .vmem S1x8960 .f32) (harg6 : arg6.IsWhole) (arg7 : Memref sig .tc .vmem S1024x8960 .fp8e4m3) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1536 .fp8e4m3) (harg10 : arg10.IsWhole) (arg11 : Memref sig .tc .vmem S20x2048 .f32) (harg11 : arg11.IsWhole) (arg12 : Memref sig .tc .vmem S512x1536 .fp8e4m3) (harg12 : arg12.IsWhole) (arg13 : Memref sig .tc .vmem S512x128 .f32) (harg13 : arg13.IsWhole) (arg14 : Memref sig .tc .vmem S512x1536 .fp8e4m3) (harg14 : arg14.IsWhole) (arg15 : Memref sig .tc .vmem S512x128 .f32) (harg15 : arg15.IsWhole) (arg16 : Memref sig .tc .vmem S320x128 .f32) (harg16 : arg16.IsWhole) (arg17 : Memref sig .tc .vmem S8x8960 .f32) (harg17 : arg17.IsWhole)
    (x1 : Vec Ideal S16 .f32) (x2 : Vec Ideal S512x1536 .bf16) (x3 : Vec Ideal S512x1536 .bf16) (x4 : Vec Ideal S512x1536 .bf16) (x5 : Vec Ideal S1536x8960 .fp8e4m3) (x6 : Vec Ideal S1x8960 .f32) (x8 : Vec Ideal S1x1 .f32) (x9 : Vec Ideal S1x1 .f32) (x11 : Vec Ideal S20x2048 .f32) (x12 : Vec Ideal S512x1536 .fp8e4m3) (x13 : Vec Ideal S512x128 .f32) (x16 : Vec Ideal S320x128 .f32) (x17 : Vec Ideal S8x8960 .f32) (d8 : Vec Ideal S1x1 .f32) (d12 : Vec Ideal S512x1536 .fp8e4m3) (d13 : Vec Ideal S512x128 .f32) (d17 : Vec Ideal S8x8960 .f32)
    (E : Set ℕ) (K : PUnit → sProp 𝕄)
    (hpro : ∀ Q : PUnit → sProp 𝕄, iprop(owns (c : Thread nD τ) arg2 fullShare x2 ∗ owns (c : Thread nD τ) arg8 fullShare d8 ∗ owns (c : Thread nD τ) arg12 fullShare d12 ∗ owns (c : Thread nD τ) arg13 fullShare d13 ∗ owns (c : Thread nD τ) arg17 fullShare d17 ∗ (iprop(owns (c : Thread nD τ) arg2 fullShare x2 ∗ owns (c : Thread nD τ) arg8 fullShare x8 ∗ owns (c : Thread nD τ) arg12 fullShare x12 ∗ owns (c : Thread nD τ) arg13 fullShare x13 ∗ owns (c : Thread nD τ) arg17 fullShare x17) -∗ Q ⟨⟩))
      ⊢ wp frame (wpE (defs₀ (F := Ideal)) Variants.none c none) E (pro i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (histVec arg1 harg1 x1) k0_pay100) Q) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare d8 ∗ owns (c : Thread nD τ) arg9 fullShare x9 ∗ (∃ d, owns (c : Thread nD τ) arg10 fullShare d) ∗ owns (c : Thread nD τ) arg11 fullShare x11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ owns (c : Thread nD τ) arg16 fullShare x16 ∗ owns (c : Thread nD τ) arg17 fullShare d17
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (ycOf x1 x5 x6 x12 x13 (xcOf x3) (xsOf x3)) ∗ owns (c : Thread nD τ) arg8 fullShare x8 ∗ owns (c : Thread nD τ) arg9 fullShare x9 ∗ owns (c : Thread nD τ) arg10 fullShare (xcPair x12 (xcOf x3)) ∗ owns (c : Thread nD τ) arg11 fullShare x11 ∗ owns (c : Thread nD τ) arg12 fullShare (xcOf x4) ∗ owns (c : Thread nD τ) arg13 fullShare (xsOf x4) ∗ (∃ d, owns (c : Thread nD τ) arg14 fullShare d) ∗ (∃ d, owns (c : Thread nD τ) arg15 fullShare d) ∗ owns (c : Thread nD τ) arg16 fullShare (rowsOf (i 0).val x16 x13 (xsOf x3)) ∗ owns (c : Thread nD τ) arg17 fullShare (amaxOf (amaxOf x17 x12 x13 x5 x6) (xcOf x3) (xsOf x3) x5 x6))
          -∗ wp frame (wpE (defs₀ (F := Ideal)) Variants.none c none) E (epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K))
      ⊢ wp frame (wpE (defs₀ (F := Ideal)) Variants.none c none) E (cc0_fp8_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H1, H2, H3, H4, H5, H6, ⟨%x7, H7⟩, H8, H9, ⟨%x10, H10⟩, H11, H12, H13, ⟨%x14, H14⟩, ⟨%x15, H15⟩, H16, H17, Hk⟩
  have e7 := main7_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 x16 x17 d8 d12 d13 d17
  have e10 := main10_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 x16 x17 d8 d12 d13 d17
  have e12 := main12_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 x16 x17 d8 d12 d13 d17
  have e13 := main13_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 x16 x17 d8 d12 d13 d17
  have e17 := main17_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 x16 x17 d8 d12 d13 d17
  have e16 := main16_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 x16 x17 d8 d12 d13 d17
  obtain ⟨L7, L10, L12, L13, L14, L15, L17, f16, e7, e10, e12, e13, e17, e16, hr⟩ := sig8 (mainRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 x16 x17 d8 d12 d13 d17) e7 e10 e12 e13 e17 e16
  rw [uC_eq, uS_eq, rC_LC, rS_LS] at e7 e17
  rw [uC_eq, rC_LC] at e10
  have h7 : ∀ f, arg7.view.read (Elt Ideal) (arg7.view.writes (Elt Ideal) f L7) = ycOf x1 x5 x6 x12 x13 (xcOf x3) (xsOf x3) := fun f => by
    rw [e7]; exact L7_val _ _ _ _ _ _ _ _ _ _ _ _ _ _ _
  have h10 : ∀ f, arg10.view.read (Elt Ideal) (arg10.view.writes (Elt Ideal) f L10) = xcPair x12 (xcOf x3) := fun f => by
    rw [e10]; exact L10_val _ _ _ _
  have h12 : ∀ f, arg12.view.read (Elt Ideal) (arg12.view.writes (Elt Ideal) f L12) = xcOf x4 := fun f => by
    rw [e12]; exact LC_val _ _ _ _ _
  have h13 : ∀ f, arg13.view.read (Elt Ideal) (arg13.view.writes (Elt Ideal) f L13) = xsOf x4 := fun f => by
    rw [e13]; exact LS_val _ _ _ _ _
  have h17 : ∀ f, arg17.view.read (Elt Ideal) (arg17.view.writes (Elt Ideal) f L17) = amaxOf (amaxOf x17 x12 x13 x5 x6) (xcOf x3) (xsOf x3) x5 x6 := fun f => by
    rw [e17]; exact L17_val _ _ _ _ _ _ _ _ _ _ _ _ _ _
  have h16 : arg16.view.read (Elt Ideal) f16 = rowsOf (i 0).val x16 x13 (xsOf x3) := by
    rw [e16]; exact L16_val i arg16 harg16 x16 arg13 harg13 x13 arg15 _ _ (fun f => LS_val _ _ _ _ _)
  clear e7 e10 e12 e13 e17 e16
  iapply (hr E K hpro)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H8, H9, H11, H7, H10, H12, H13, ⟨%f14, H14⟩, ⟨%f15, H15⟩, H17, H16⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · iapply (owns_of_pieces c arg7 _ _ (fun f => h7 f))
    iexact H7
  isplitl [H8]; · iexact H8
  isplitl [H9]; · iexact H9
  isplitl [H10]
  · iapply (owns_of_pieces c arg10 _ _ (fun f => h10 f))
    iexact H10
  isplitl [H11]; · iexact H11
  isplitl [H12]
  · iapply (owns_of_pieces c arg12 _ _ (fun f => h12 f))
    iexact H12
  isplitl [H13]
  · iapply (owns_of_pieces c arg13 _ _ (fun f => h13 f))
    iexact H13
  isplitl [H14]
  · iexists _; unfold owns; iexists _; isplitr
    swap; · iexact H14
    ipureintro; rfl
  isplitl [H15]
  · iexists _; unfold owns; iexists _; isplitr
    swap; · iexact H15
    ipureintro; rfl
  isplitl [H16]
  · unfold owns; iexists _; isplitr
    swap; · iexact H16
    ipureintro; exact h16
  iapply (owns_of_pieces c arg17 _ _ h17)
  iexact H17

end Cert.KernelIdeal.Gen
-- ==== Proof.Run.lean ====
/- The run of the kernel: what each array holds when it ends. -/
module

public import proofs.«01_k».proof.Proof.State
public import proofs.«01_k».proof.Proof.BodyPro
public import proofs.«01_k».proof.Proof.BodyEpi
public import proofs.«01_k».proof.Proof.BodyMain
public import Idealize.ShloMosaic.Lib.Claim
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The invariant between points. -/
def PhiS (c : Dev nD) : ℕ → sProp 𝕄
  | 0 => Pipeline.ΦA spec0 c
  | n + 1 => iprop(iprop(owns (c : Thread nD τ) scM0_0 fullShare (xcOf (XAn m c (n + 1))) ∗ owns (c : Thread nD τ) scM0_1 fullShare (xsOf (XAn m c (n + 1))) ∗ (∃ d, owns (c : Thread nD τ) scM0_2 fullShare d) ∗ (∃ d, owns (c : Thread nD τ) scM0_3 fullShare d) ∗ (∃ d, ⌜RowsOK m c (n + 1) d⌝ ∗ owns (c : Thread nD τ) scM0_4 fullShare d) ∗ owns (c : Thread nD τ) scM0_5 fullShare (am m c (n + 1))) ∗ (∃ r, prngReg c r))

theorem PhiS_succ (c : Dev nD) (n : ℕ) : PhiS m c (n + 1) = iprop(iprop(owns (c : Thread nD τ) scM0_0 fullShare (xcOf (XAn m c (n + 1))) ∗ owns (c : Thread nD τ) scM0_1 fullShare (xsOf (XAn m c (n + 1))) ∗ (∃ d, owns (c : Thread nD τ) scM0_2 fullShare d) ∗ (∃ d, owns (c : Thread nD τ) scM0_3 fullShare d) ∗ (∃ d, ⌜RowsOK m c (n + 1) d⌝ ∗ owns (c : Thread nD τ) scM0_4 fullShare d) ∗ owns (c : Thread nD τ) scM0_5 fullShare (am m c (n + 1))) ∗ (∃ r, prngReg c r)) := rfl

theorem PhiS_pos (c : Dev nD) (n : ℕ) (hz : n ≠ 0) : PhiS m c n = iprop(iprop(owns (c : Thread nD τ) scM0_0 fullShare (xcOf (XAn m c (n))) ∗ owns (c : Thread nD τ) scM0_1 fullShare (xsOf (XAn m c (n))) ∗ (∃ d, owns (c : Thread nD τ) scM0_2 fullShare d) ∗ (∃ d, owns (c : Thread nD τ) scM0_3 fullShare d) ∗ (∃ d, ⌜RowsOK m c (n) d⌝ ∗ owns (c : Thread nD τ) scM0_4 fullShare d) ∗ owns (c : Thread nD τ) scM0_5 fullShare (am m c (n))) ∗ (∃ r, prngReg c r)) := by
  cases n with
  | zero => exact absurd rfl hz
  | succ n => rfl

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o6 m c t
    | ⟨7, _⟩ => o7 m c
    | ⟨8, _⟩ => o8 m c
    | ⟨9, _⟩ => o9 m c t
    | ⟨10, _⟩ => o10 m c
  Φ t := PhiS m c t.val
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = o6 m c t := by dsimp only [dats]
theorem after0_7 (c : Dev nD) (t : Fin cfg0.N) : (dats m 0 c).after 7 t = o7 m c := by dsimp only [dats]
theorem after0_8 (c : Dev nD) (t : Fin cfg0.N) : (dats m 0 c).after 8 t = o8 m c := by dsimp only [dats]
theorem after0_9 (c : Dev nD) (t : Fin cfg0.N) : (dats m 0 c).after 9 t = o9 m c t := by dsimp only [dats]
theorem after0_10 (c : Dev nD) (t : Fin cfg0.N) : (dats m 0 c).after 10 t = o10 m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! Where the scalar outputs and the scales' output are stored. -/

theorem idle7 (t : Fin cfg0.N) : cfg0.idle 7 (cfg0.grid.coords t) = !(k0_cond1 (grid0.coords t) == 1#1) := rfl
theorem idle8 (t : Fin cfg0.N) : cfg0.idle 8 (cfg0.grid.coords t) = !(k0_cond2 (grid0.coords t) == 1#1) := rfl
theorem idle10 (t : Fin cfg0.N) : cfg0.idle 10 (cfg0.grid.coords t) = !(k0_cond2 (grid0.coords t) == 1#1) := rfl

theorem N40 (t : Fin cfg0.N) : t.val < 40 := Nat.lt_of_lt_of_eq t.isLt N_0

/-- Off the first point window 7 has been stored. -/
theorem fresh7 (n : ℕ) (hn : n < 40) : cfg0.fresh 7 (n + 1) = true → n + 1 = 40 := by
  induction n with
  | zero =>
    intro h
    have h0 : (0 : ℕ) < cfg0.N := by rw [show cfg0.N = 40 from N_0]; decide
    rw [Pipeline.Cfg.fresh_succ cfg0 7 0 h0, idle7, (hcond0_0 ⟨0, h0⟩).mpr rfl] at h
    simp only [beq_self_eq_true, Bool.not_true, Bool.false_and, Bool.or_false] at h
    have := (flush0_7 _).mp h
    dsimp only at this
    omega
  | succ n ih =>
    intro h
    have h0 : n + 1 < cfg0.N := by rw [show cfg0.N = 40 from N_0]; exact hn
    rw [Pipeline.Cfg.fresh_succ cfg0 7 (n + 1) h0, Bool.or_eq_true, Bool.and_eq_true] at h
    rcases h with h | ⟨_, h⟩
    · have := (flush0_7 _).mp h
      dsimp only at this
      omega
    · have := ih (by omega) h
      omega

theorem before7 (c : Dev nD) (t : Fin cfg0.N) (hz : t.val ≠ 0) (d) : (dats m 0 c).before 7 t d = o7 m c := by
  rw [(dats m 0 c).before_out_traj 7 rfl (fun _ _ => rfl) (fun t _ _ _ => by rw [after0_7, after0_7]) t.val t rfl d, if_neg, after0_7]
  intro h
  obtain ⟨n, hn⟩ := Nat.exists_eq_succ_of_ne_zero hz
  have ht := N40 t
  rw [hn] at h
  have := fresh7 n (by omega) h
  omega

theorem leaves7 (c : Dev nD) (t : Fin cfg0.N) :
    owns (c : Thread nD τ) (ms0_7 t) fullShare (o7 m c) ⊢ ((dats m 0 c).leavesExact 7 t : sProp 𝕄) := by
  by_cases hi : cfg0.idle 7 (cfg0.grid.coords t) = true
  · by_cases hf : (cfg0.win 7).flush t = true
    · unfold Dat.leavesExact; rw [hi, hf, after0_7]
    · rw [Bool.not_eq_true] at hf
      rw [(dats m 0 c).leavesExact_idle 7 t hi hf]
      iintro H
      iexists (o7 m c)
      rw [before7 m c t _ (o7 m c)]
      · iexact H
      · intro hz
        rw [idle7, (hcond0_0 t).mpr (by omega)] at hi
        exact absurd hi (by decide)
  · rw [Bool.not_eq_true] at hi
    unfold Dat.leavesExact; rw [hi, after0_7]

theorem leaves8_early (c : Dev nD) (t : Fin cfg0.N) (h : ¬ t.val % 40 = 39) (d) :
    owns (c : Thread nD τ) (ms0_8 t) fullShare ((dats m 0 c).before 8 t d) ⊢ ((dats m 0 c).leavesExact 8 t : sProp 𝕄) := by
  have hf : (cfg0.win 8).flush t = false := by rw [← Bool.not_eq_true]; exact fun hf => h ((flush0_8 t).mp hf)
  have hi : cfg0.idle 8 (cfg0.grid.coords t) = true := by
    rw [idle8, Bool.not_eq_true', beq_eq_false_iff_ne]; exact fun hc => h ((hcond0_1 t).mp hc)
  rw [(dats m 0 c).leavesExact_idle 8 t hi hf]
  iintro H
  iexists d
  iexact H

theorem leaves8_last (c : Dev nD) (t : Fin cfg0.N) (h : t.val % 40 = 39) :
    owns (c : Thread nD τ) (ms0_8 t) fullShare (o8 m c) ⊢ ((dats m 0 c).leavesExact 8 t : sProp 𝕄) := by
  have hi : cfg0.idle 8 (cfg0.grid.coords t) = false := by
    rw [idle8, (hcond0_1 t).mpr h]; rfl
  unfold Dat.leavesExact; rw [hi, after0_8]

theorem leaves10_early (c : Dev nD) (t : Fin cfg0.N) (h : ¬ t.val % 40 = 39) (d) :
    owns (c : Thread nD τ) (ms0_10 t) fullShare ((dats m 0 c).before 10 t d) ⊢ ((dats m 0 c).leavesExact 10 t : sProp 𝕄) := by
  have hf : (cfg0.win 10).flush t = false := by rw [← Bool.not_eq_true]; exact fun hf => h ((flush0_10 t).mp hf)
  have hi : cfg0.idle 10 (cfg0.grid.coords t) = true := by
    rw [idle10, Bool.not_eq_true', beq_eq_false_iff_ne]; exact fun hc => h ((hcond0_1 t).mp hc)
  rw [(dats m 0 c).leavesExact_idle 10 t hi hf]
  iintro H
  iexists d
  iexact H

theorem leaves10_last (c : Dev nD) (t : Fin cfg0.N) (h : t.val % 40 = 39) :
    owns (c : Thread nD τ) (ms0_10 t) fullShare (o10 m c) ⊢ ((dats m 0 c).leavesExact 10 t : sProp 𝕄) := by
  have hi : cfg0.idle 10 (cfg0.grid.coords t) = false := by
    rw [idle10, (hcond0_1 t).mpr h]; rfl
  unfold Dat.leavesExact; rw [hi, after0_10]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)
theorem leaves0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
theorem leaves1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
theorem leaves2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
theorem leaves3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
theorem leaves4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]
theorem leaves5 (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after0_5]
theorem leaves6 (c : Dev nD) (t : Fin cfg0.N) : (dats m 0 c).leavesExact 6 t = owns (c : Thread nD τ) (ms0_6 t) fullShare (o6 m c t) := by
  unfold Dat.leavesExact; rw [show cfg0.idle 6 (cfg0.grid.coords t) = false from rfl, after0_6]
theorem leaves9 (c : Dev nD) (t : Fin cfg0.N) : (dats m 0 c).leavesExact 9 t = owns (c : Thread nD τ) (ms0_9 t) fullShare (o9 m c t) := by
  unfold Dat.leavesExact; rw [show cfg0.idle 9 (cfg0.grid.coords t) = false from rfl, after0_9]

set_option maxHeartbeats 8000000 in
/-- The body at the first point. -/
theorem sound_first (c : Dev nD) (t : Fin cfg0.N) (hz : t.val = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, PhiS_succ, show (dats m 0 c).Φ t.castSucc = PhiS m c t.val from rfl]
  rw [leaves0, leaves1, leaves2, leaves3, leaves4, leaves5, leaves6, leaves9]
  have hN := N40 t
  have e00 : (grid0.coords t 0).val = t.val := by
    have e0 : (grid0.coords t 0).val = t.val / 1 % 40 := Pipeline.Grid.coords_val t 0 (by decide) rfl
    omega
  have eA : bA m c t = XAn m c (t.val + 1) := by
    show _ = bA m c (pt t.val); rw [pt_val]
  have eam : amaxOf (amaxOf (am m c t.val) (xcOf (XAn m c t.val)) (xsOf (XAn m c t.val)) (iblk m c 4 t) (iblk m c 5 t)) (xcOf (iblk m c 2 t)) (xsOf (iblk m c 2 t)) (iblk m c 4 t) (iblk m c 5 t) = am m c (t.val + 1) := by
    show _ = amaxOf (amaxOf (am m c t.val) (xcOf (XAn m c t.val)) (xsOf (XAn m c t.val)) (bW m c (pt t.val)) (bWs m c (pt t.val))) (xcOf (bB m c (pt t.val))) (xsOf (bB m c (pt t.val))) (bW m c (pt t.val)) (bWs m c (pt t.val))
    rw [pt_val]
  have h0 : t.val % 40 = 0 := by omega
  have h1 : ¬ t.val % 40 = 39 := by omega
  rw [show PhiS m c t.val = Pipeline.ΦA spec0 c from (by rw [hz]; rfl), PhiA0_eq]
  have eX : bX m c t = XAn m c t.val := by
    rw [hz]; show _ = bX m c (pt 0); rw [← hz, pt_val]
  have eH : (fun _ => scl (tH (iblk m c 0 t)) : Vec Ideal S1x1 .f32) = o7 m c := by
    unfold o7; rw [← hz, pt_val]
  have eM : (fun _ => 0 : Vec Ideal S8x8960 .f32) = am m c t.val := by
    rw [hz]; rfl
  iintro ⟨⟨⟨⟨%e0, HS0⟩, ⟨%e1, HS1⟩, HS2, HS3, ⟨%e4, HS4⟩, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hp : ∀ Q : PUnit → sProp 𝕄, _ := fun Q => pro_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) ((dats m 0 c).before 7 t d7) e0 e1 e5 Set.univ Q
  rw [eH, eM, show xcOf (iblk m c 1 t) = xcOf (XAn m c t.val) from congrArg xcOf eX, show xsOf (iblk m c 1 t) = xsOf (XAn m c t.val) from congrArg xsOf eX] at hp
  iapply (main_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (o7 m c) ((dats m 0 c).before 8 t d8) ((dats m 0 c).before 10 t d10) (xcOf (XAn m c t.val)) (xsOf (XAn m c t.val)) e4 (am m c t.val) ((dats m 0 c).before 7 t d7) e0 e1 e5 Set.univ _ hp)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexists _; iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  have hR' : RowsOK m c (t.val + 1) (rowsOf (grid0.coords t 0).val e4 (xsOf (XAn m c t.val)) (xsOf (iblk m c 2 t))) := by
    rw [e00]; have h := RowsOK_succ m c t.val e4 (by rw [hz]; exact RowsOK_zero m c e4); rw [pt_val] at h; exact h
  rw [show xcOf (iblk m c 3 t) = xcOf (XAn m c (t.val + 1)) from congrArg xcOf eA, show xsOf (iblk m c 3 t) = xsOf (XAn m c (t.val + 1)) from congrArg xsOf eA, eam]
  iapply (epi_early c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h1 ((hcond0_1 t).mp h)) Set.univ _)
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]
      · iexists _; isplitr
        swap; · iexact HS4
        ipureintro; exact hR'
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7 m c t); iexact H7
  isplitl [H8]; · iapply (leaves8_early m c t h1 d8); iexact H8
  isplitl [H9]; · iexact H9
  iapply (leaves10_early m c t h1 d10); iexact H10

set_option maxHeartbeats 8000000 in
/-- The body at the middle points. -/
theorem sound_mid (c : Dev nD) (t : Fin cfg0.N) (hz : t.val ≠ 0) (h1 : ¬ t.val % 40 = 39) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, PhiS_succ, show (dats m 0 c).Φ t.castSucc = PhiS m c t.val from rfl]
  rw [leaves0, leaves1, leaves2, leaves3, leaves4, leaves5, leaves6, leaves9]
  have hN := N40 t
  have e00 : (grid0.coords t 0).val = t.val := by
    have e0 : (grid0.coords t 0).val = t.val / 1 % 40 := Pipeline.Grid.coords_val t 0 (by decide) rfl
    omega
  have eA : bA m c t = XAn m c (t.val + 1) := by
    show _ = bA m c (pt t.val); rw [pt_val]
  have eam : amaxOf (amaxOf (am m c t.val) (xcOf (XAn m c t.val)) (xsOf (XAn m c t.val)) (iblk m c 4 t) (iblk m c 5 t)) (xcOf (iblk m c 2 t)) (xsOf (iblk m c 2 t)) (iblk m c 4 t) (iblk m c 5 t) = am m c (t.val + 1) := by
    show _ = amaxOf (amaxOf (am m c t.val) (xcOf (XAn m c t.val)) (xsOf (XAn m c t.val)) (bW m c (pt t.val)) (bWs m c (pt t.val))) (xcOf (bB m c (pt t.val))) (xsOf (bB m c (pt t.val))) (bW m c (pt t.val)) (bWs m c (pt t.val))
    rw [pt_val]
  have h0 : ¬ t.val % 40 = 0 := by omega
  rw [PhiS_pos m c _ hz]
  iintro ⟨⟨⟨HS0, HS1, HS2, HS3, ⟨%e4, %hR, HS4⟩, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before7 m c t hz d7]
  iapply (main_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (o7 m c) ((dats m 0 c).before 8 t d8) ((dats m 0 c).before 10 t d10) (xcOf (XAn m c t.val)) (xsOf (XAn m c t.val)) e4 (am m c t.val) (o7 m c) (xcOf (XAn m c t.val)) (xsOf (XAn m c t.val)) (am m c t.val) Set.univ _ (fun Q => pro_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (o7 m c) (xcOf (XAn m c t.val)) (xsOf (XAn m c t.val)) (am m c t.val) Set.univ Q))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexists _; iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  have hR' : RowsOK m c (t.val + 1) (rowsOf (grid0.coords t 0).val e4 (xsOf (XAn m c t.val)) (xsOf (iblk m c 2 t))) := by
    rw [e00]; have h := RowsOK_succ m c t.val e4 hR; rw [pt_val] at h; exact h
  rw [show xcOf (iblk m c 3 t) = xcOf (XAn m c (t.val + 1)) from congrArg xcOf eA, show xsOf (iblk m c 3 t) = xsOf (XAn m c (t.val + 1)) from congrArg xsOf eA, eam]
  iapply (epi_early c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h1 ((hcond0_1 t).mp h)) Set.univ _)
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]
      · iexists _; isplitr
        swap; · iexact HS4
        ipureintro; exact hR'
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7 m c t); iexact H7
  isplitl [H8]; · iapply (leaves8_early m c t h1 d8); iexact H8
  isplitl [H9]; · iexact H9
  iapply (leaves10_early m c t h1 d10); iexact H10

set_option maxHeartbeats 8000000 in
/-- The body at the last point. -/
theorem sound_last (c : Dev nD) (t : Fin cfg0.N) (h1 : t.val % 40 = 39) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, PhiS_succ, show (dats m 0 c).Φ t.castSucc = PhiS m c t.val from rfl]
  rw [leaves0, leaves1, leaves2, leaves3, leaves4, leaves5, leaves6, leaves9]
  have hN := N40 t
  have e00 : (grid0.coords t 0).val = t.val := by
    have e0 : (grid0.coords t 0).val = t.val / 1 % 40 := Pipeline.Grid.coords_val t 0 (by decide) rfl
    omega
  have eA : bA m c t = XAn m c (t.val + 1) := by
    show _ = bA m c (pt t.val); rw [pt_val]
  have eam : amaxOf (amaxOf (am m c t.val) (xcOf (XAn m c t.val)) (xsOf (XAn m c t.val)) (iblk m c 4 t) (iblk m c 5 t)) (xcOf (iblk m c 2 t)) (xsOf (iblk m c 2 t)) (iblk m c 4 t) (iblk m c 5 t) = am m c (t.val + 1) := by
    show _ = amaxOf (amaxOf (am m c t.val) (xcOf (XAn m c t.val)) (xsOf (XAn m c t.val)) (bW m c (pt t.val)) (bWs m c (pt t.val))) (xcOf (bB m c (pt t.val))) (xsOf (bB m c (pt t.val))) (bW m c (pt t.val)) (bWs m c (pt t.val))
    rw [pt_val]
  have hz : t.val ≠ 0 := by omega
  have h0 : ¬ t.val % 40 = 0 := by omega
  rw [PhiS_pos m c _ hz]
  iintro ⟨⟨⟨HS0, HS1, HS2, HS3, ⟨%e4, %hR, HS4⟩, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before7 m c t hz d7]
  iapply (main_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (o7 m c) ((dats m 0 c).before 8 t d8) ((dats m 0 c).before 10 t d10) (xcOf (XAn m c t.val)) (xsOf (XAn m c t.val)) e4 (am m c t.val) (o7 m c) (xcOf (XAn m c t.val)) (xsOf (XAn m c t.val)) (am m c t.val) Set.univ _ (fun Q => pro_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (o7 m c) (xcOf (XAn m c t.val)) (xsOf (XAn m c t.val)) (am m c t.val) Set.univ Q))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexists _; iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  have hR' : RowsOK m c (t.val + 1) (rowsOf (grid0.coords t 0).val e4 (xsOf (XAn m c t.val)) (xsOf (iblk m c 2 t))) := by
    rw [e00]; have h := RowsOK_succ m c t.val e4 hR; rw [pt_val] at h; exact h
  rw [show xcOf (iblk m c 3 t) = xcOf (XAn m c (t.val + 1)) from congrArg xcOf eA, show xsOf (iblk m c 3 t) = xsOf (XAn m c (t.val + 1)) from congrArg xsOf eA, eam]
  iapply (epi_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_1 t).mpr h1) ((dats m 0 c).before 8 t d8) ((dats m 0 c).before 10 t d10) _ _ Set.univ _)
  isplitl [H8]; · iexact H8
  isplitl [H10]; · iexact H10
  isplitl [HS4]; · iexact HS4
  isplitl [HS5]; · iexact HS5
  have e40 : t.val + 1 = 40 := by omega
  rw [e40] at hR'
  have eR := RowsOK_all m c _ hR'
  rw [eR]
  iintro ⟨H8, H10, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]
      · iexists _; isplitr
        swap; · iexact HS4
        ipureintro; exact (by intro y _; rfl)
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7 m c t); iexact H7
  isplitl [H8]
  · iapply (leaves8_last m c t h1)
    rw [show o8 m c = _ from (by unfold o8; rw [← e40])]
    iexact H8
  isplitl [H9]; · iexact H9
  iapply (leaves10_last m c t h1); iexact H10

theorem sound_body (c : Dev nD) (t : Fin cfg0.N) :
    bodyPre m c t ⊢ wp frame (wpE (defs₀ (F := Ideal)) Variants.none c none) Set.univ (bodyAt0 t) (fun _ => bodyPost m c t) := by
  by_cases hz : t.val = 0
  · exact sound_first m c t hz
  · by_cases h1 : t.val % 40 = 39
    · exact sound_last m c t h1
    · exact sound_mid m c t hz h1

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val from rfl, PhiS_pos m c _ (by rw [Fin.val_last]; have : cfg0.N = 40 := N_0; omega), PhiA0_eq]
  iintro ⟨⟨HS0, HS1, HS2, HS3, ⟨%d4, %_hd, HS4⟩, HS5⟩, Hg⟩
  isplitl [HS0 HS1 HS2 HS3 HS4 HS5]
  · isplitl [HS0]
    · iexists _; iexact HS0
    isplitl [HS1]
    · iexists _; iexact HS1
    isplitl [HS2]
    · iexact HS2
    isplitl [HS3]
    · iexact HS3
    isplitl [HS4]
    · iexists _; iexact HS4
    iexists _; iexact HS5
  iexact Hg

set_option backward.isDefEq.respectTransparency.types false in
/-- From any memory with zero counters every fair execution of @main terminates; every final state has each array at what
    the proof data say and every semaphore counter at zero. -/
theorem run_main_quiescent : θ_run defs (onTc (τ := τ) (main (F := Ideal))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The argument arrays end unchanged and every counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Gen
-- ==== Proof.KOut.lean ====
/- The arrays that the kernel leaves. -/
module

public import proofs.«01_k».proof.Proof.Run
public import Idealize.ShloMosaic.Lib.Pipeline.ValueKit.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

theorem ix_6 : ∀ t : Fin cfg0.N, win0_6.index t = ![t.val, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![0, 0] := (by decide +kernel : ∀ t : Fin grid0.N, _)

/-- The codes of the result, the whole array. -/
def G6 (c : Dev nD) : Vec Ideal S40960x8960 .fp8e4m3 := fun i =>
  o6 m c (pt ((i 0).val / 1024)) (ix2 ⟨(i 0).val % 1024, Nat.mod_lt _ (by omega)⟩ (i 1))
/-- The codes of the rows, the whole array. -/
def G9 (c : Dev nD) : Vec Ideal S40960x1536 .fp8e4m3 := fun i =>
  o9 m c (pt ((i 0).val / 1024)) (ix2 ⟨(i 0).val % 1024, Nat.mod_lt _ (by omega)⟩ (i 1))

theorem pt_of (t : Fin cfg0.N) (n r : ℕ) (hr : r < 1024) (hn : n = t.val * 1024 + r) : pt (n / 1024) = t := by
  have ht := N40 t
  apply Fin.ext
  show n / 1024 % 40 = t.val
  omega

theorem final6 (c : Dev nD) : (dats m 0 c).arrAt 6 cfg0.N = G6 m c := by
  refine (dats m 0 c).arrAt_eq_of_covers 6 _ (by decide +kernel) fun t hf y => ?_
  blk_simp [ix_6 t]
  rw [after0_6]
  unfold G6
  have h0 : (((win0_6.blk t).view.emb y) 0).val = t.val * 1024 + (y 0).val := by blk_simp [ix_6 t]
  have h1 : (((win0_6.blk t).view.emb y) 1).val = (y 1).val := by blk_simp [ix_6 t]
  have hy : (y 0).val < 1024 := (y 0).isLt
  rw [pt_of t _ (y 0).val hy h0]
  refine congrArg _ (funext fun a => Fin.ext ?_)
  match a with
  | ⟨0, _⟩ => show (y 0).val = (((win0_6.blk t).view.emb y) 0).val % 1024; omega
  | ⟨1, _⟩ => exact h1.symm

theorem final9 (c : Dev nD) : (dats m 0 c).arrAt 9 cfg0.N = G9 m c := by
  refine (dats m 0 c).arrAt_eq_of_covers 9 _ (by decide +kernel) fun t hf y => ?_
  blk_simp [ix_9 t]
  rw [after0_9]
  unfold G9
  have h0 : (((win0_9.blk t).view.emb y) 0).val = t.val * 1024 + (y 0).val := by blk_simp [ix_9 t]
  have h1 : (((win0_9.blk t).view.emb y) 1).val = (y 1).val := by blk_simp [ix_9 t]
  have hy : (y 0).val < 1024 := (y 0).isLt
  rw [pt_of t _ (y 0).val hy h0]
  refine congrArg _ (funext fun a => Fin.ext ?_)
  match a with
  | ⟨0, _⟩ => show (y 0).val = (((win0_9.blk t).view.emb y) 0).val % 1024; omega
  | ⟨1, _⟩ => exact h1.symm

theorem final7 (c : Dev nD) : (dats m 0 c).arrAt 7 cfg0.N = o7 m c := by
  refine (dats m 0 c).arrAt_eq_of_covers 7 _ (by decide +kernel) fun t hf y => ?_
  blk_simp [ix_7 t]
  rw [after0_7]
  blk_ext [ix_7 t]

theorem final8 (c : Dev nD) : (dats m 0 c).arrAt 8 cfg0.N = o8 m c := by
  refine (dats m 0 c).arrAt_eq_of_covers 8 _ (by decide +kernel) fun t hf y => ?_
  blk_simp [ix_8 t]
  rw [after0_8]
  blk_ext [ix_8 t]

theorem final10 (c : Dev nD) : (dats m 0 c).arrAt 10 cfg0.N = o10 m c := by
  refine (dats m 0 c).arrAt_eq_of_covers 10 _ (by decide +kernel) fun t hf y => ?_
  blk_simp [ix_10 t]
  rw [after0_10]
  blk_ext [ix_10 t]

/-- What the kernel's five results hold when it has run. -/
theorem run_values : θ_run defs (onTc (τ := τ) (main (F := Ideal))) ⟨m, fun _ => 0, ρ⟩ fun r => ∀ c : Dev nD,
      r.2.mem ((c : Thread nD τ).loc main_v2_0) = G6 m c
      ∧ r.2.mem ((c : Thread nD τ).loc main_v2_1) = o7 m c
      ∧ r.2.mem ((c : Thread nD τ).loc main_v2_2) = o8 m c
      ∧ r.2.mem ((c : Thread nD τ).loc main_v2_3) = G9 m c
      ∧ r.2.mem ((c : Thread nD τ).loc main_v2_4) = o10 m c :=
  (θ_run defs _ _).mono (fun r h c => ⟨((h.1 c).1 6).trans (final6 m c), ((h.1 c).1 7).trans (final7 m c),
      ((h.1 c).1 8).trans (final8 m c), ((h.1 c).1 9).trans (final9 m c), ((h.1 c).1 10).trans (final10 m c)⟩)
    (run_main_quiescent m ρ)

end Cert.KernelIdeal.Gen
-- ==== Proof.Power.lean ====
/- Powers of two: what the kernel counts against what the reference takes from logarithms. -/
module

public import proofs.«01_k».proof.Proof.Spec
public import Idealize.ShloMosaic.Lib.IdealHost

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem extr (k : Fin 256) : ((IntOp.shli .vector (BitVec.ofNat 32 k.val) 23#32).extractLsb' 31 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by
  revert k; decide +kernel

theorem ofBits_ieee (b : BitVec 32) : Ideal.ofBits .f32 b = Ideal.ieee 8 23 b := rfl

/-- The word with exponent field `k` and no fraction is a power of two. -/
theorem word_pow (k : ℕ) (h1 : 1 ≤ k) (h2 : k ≤ 254) :
    Ideal.ofBits .f32 (IntOp.shli .vector (BitVec.ofNat 32 k) 23#32) = (((2 : ℝ) ^ ((k : ℤ) - 127) : ℝ) : EReal) := by
  obtain ⟨e1, e2, e3⟩ := extr ⟨k, by omega⟩
  dsimp only at e1 e2 e3
  generalize IntOp.shli .vector (BitVec.ofNat 32 k) 23#32 = b at e1 e2 e3 ⊢
  rw [ofBits_ieee]
  unfold Ideal.ieee
  simp only [Nat.reduceAdd]
  rw [e1, e2, e3, if_neg (by omega), if_neg (by omega)]
  congr 1
  simp only [Bool.false_eq_true, if_false, one_mul]
  rw [show ((2 ^ 23 + 0 : ℕ) : ℝ) = (2 : ℝ) ^ (23 : ℤ) by norm_num, ← zpow_add₀ (by norm_num)]
  congr 1
  norm_num

/-- With field 255 it is infinity. -/
theorem word_top : Ideal.ofBits .f32 (IntOp.shli .vector (BitVec.ofNat 32 255) 23#32) = ⊤ := by
  obtain ⟨e1, e2, e3⟩ := extr ⟨255, by omega⟩
  dsimp only at e1 e2 e3
  generalize IntOp.shli .vector (BitVec.ofNat 32 255) 23#32 = b at e1 e2 e3 ⊢
  rw [ofBits_ieee]
  unfold Ideal.ieee
  simp only [Nat.reduceAdd]
  rw [e1, e2, e3]
  simp

/-- A sum of ones counts. -/
theorem fold_count {ι : Type*} [DecidableEq ι] (s : Finset ι) (p : ι → Prop) [DecidablePred p] :
    s.fold IntOp.addi 0#32 (fun x => if p x then 0#32 else 1#32) = BitVec.ofNat 32 (s.filter fun x => ¬ p x).card := by
  induction s using Finset.induction_on with
  | empty => rfl
  | insert a s ha ih =>
    rw [Finset.fold_insert ha, ih, Finset.filter_insert]
    by_cases hp : p a
    · rw [if_pos hp, if_neg (not_not.mpr hp)]
      show 0#32 + _ = _
      simp
    · rw [if_neg hp, if_pos hp, Finset.card_insert_of_notMem (by simp [ha])]
      show 1#32 + _ = _
      rw [BitVec.ofNat_add, BitVec.add_comm]

theorem card_lt : ∀ K : Fin 256, (Finset.univ.filter fun x : Fin 255 => x.val < K.val).card = K.val := by decide +kernel

/-- The thresholds: the `x`-th is a power of two, the last is infinity. -/
theorem thr (x : Fin 255) : Ideal.ofBits .f32 (IntOp.shli .vector (IntOp.addi (BitVec.ofNat 32 x.val) 1#32) 23#32)
    = if x.val = 254 then ⊤ else (((2 : ℝ) ^ ((x.val : ℤ) - 126) : ℝ) : EReal) := by
  have hx := x.isLt
  have e : IntOp.addi (BitVec.ofNat 32 x.val) 1#32 = BitVec.ofNat 32 (x.val + 1) := by
    show BitVec.ofNat 32 x.val + 1#32 = _
    rw [BitVec.ofNat_add]
  rw [e]
  by_cases h : x.val = 254
  · rw [if_pos h, h]; exact word_top
  · rw [if_neg h, word_pow _ (by omega) (by omega)]
    congr 2
    push_cast; ring

/-- The count when no threshold lies strictly between: `K` thresholds do not exceed the number. -/
theorem cnt_of (t : EReal) (a : ℝ) (ha : max t (-t) = (a : EReal)) (K : ℕ) (hK : K ≤ 254)
    (h1 : ∀ j : ℕ, j < K → (2 : ℝ) ^ ((j : ℤ) - 126) ≤ a) (h2 : ∀ j : ℕ, K ≤ j → a < (2 : ℝ) ^ ((j : ℤ) - 126)) :
    cnt t = BitVec.ofNat 32 K := by
  unfold cnt
  have hcard := card_lt ⟨K, by omega⟩
  dsimp only at hcard
  rw [fold_count]
  refine congrArg (BitVec.ofNat 32) (Eq.trans (congrArg Finset.card ?_) hcard)
  ext x
  rw [Finset.mem_filter, Finset.mem_filter]
  refine and_congr_right fun _ => ?_
  have hx := x.isLt
  rw [thr x]
  show ¬ (max t (-t) < _) ↔ _
  rw [ha]
  by_cases h : x.val = 254
  · rw [if_pos h]
    exact iff_of_false (not_not.mpr (EReal.coe_lt_top a)) (by omega)
  · rw [if_neg h, EReal.coe_lt_coe_iff, not_lt]
    constructor
    · intro hle
      by_contra hc
      exact absurd (h2 x.val (not_lt.mp hc)) (not_lt.mpr hle)
    · exact fun hlt => h1 x.val hlt

theorem cmpi_eq_lit (K c : ℕ) (hK : K < 2 ^ 32) (hc : c < 2 ^ 32) :
    IntOp.cmpi .eq (BitVec.ofNat 32 K) (BitVec.ofNat 32 c) = BitVec.ofBool (decide (K = c)) := by
  show BitVec.ofBool _ = _
  congr 1
  rw [Bool.eq_iff_iff]
  simp only [beq_iff_eq, decide_eq_true_eq]
  constructor
  · intro h
    have := congrArg BitVec.toNat h
    rw [BitVec.toNat_ofNat, BitVec.toNat_ofNat, Nat.mod_eq_of_lt hK, Nat.mod_eq_of_lt hc] at this
    exact this
  · intro h; rw [h]

theorem fld_pos (t : EReal) (K : ℕ) (h1 : 1 ≤ K) (h2 : K ≤ 254) (h : cnt t = BitVec.ofNat 32 K) : fld t = BitVec.ofNat 32 K := by
  unfold fld
  rw [h, cmpi_eq_lit K 0 (by omega) (by omega), cmpi_eq_lit K 255 (by omega) (by omega), decide_eq_false (by omega), decide_eq_false (by omega)]
  rfl

theorem fld_zero (t : EReal) (h : cnt t = 0#32) : fld t = 126#32 := by
  unfold fld
  rw [h]
  rfl

theorem scl_of (t : EReal) (K : ℕ) (h1 : 1 ≤ K) (h2 : K ≤ 252) (h : fld t = BitVec.ofNat 32 K) :
    scl t = (((2 : ℝ) ^ ((K : ℤ) - 126) : ℝ) : EReal) ∧ inv t = (((2 : ℝ) ^ (126 - (K : ℤ)) : ℝ) : EReal) := by
  constructor
  · unfold scl
    rw [h, show IntOp.addi (BitVec.ofNat 32 K) 1#32 = BitVec.ofNat 32 (K + 1) by
      show BitVec.ofNat 32 K + 1#32 = _
      rw [BitVec.ofNat_add], word_pow _ (by omega) (by omega)]
    congr 2; push_cast; ring
  · unfold inv
    rw [h, show IntOp.subi 253#32 (BitVec.ofNat 32 K) = BitVec.ofNat 32 (253 - K) by
      show 253#32 - BitVec.ofNat 32 K = _
      apply BitVec.eq_of_toNat_eq
      rw [BitVec.toNat_sub, BitVec.toNat_ofNat, BitVec.toNat_ofNat, BitVec.toNat_ofNat]
      omega, word_pow _ (by omega) (by omega)]
    congr 2
    rw [Nat.cast_sub (by omega)]; push_cast; ring

/-- The exponent that the reference takes. -/
def eR (t : EReal) : EReal :=
  if max t (-t) < Ideal.ofBits .f32 0x00800000#32 then 0
  else Ideal.liftRound Int.floor (Ideal.div (Ideal.log (max t (-t))) (Ideal.log (Ideal.ofBits .f32 0x40000000#32))) + Ideal.ofBits .f32 0x3F800000#32

theorem two_word : Ideal.ofBits .f32 0x40000000#32 = ((2 : ℝ) : EReal) := by
  have := word_pow 128 (by omega) (by omega)
  rw [show IntOp.shli .vector (BitVec.ofNat 32 128) 23#32 = 0x40000000#32 from rfl] at this
  rw [this]; norm_num
theorem one_word : Ideal.ofBits .f32 0x3F800000#32 = ((1 : ℝ) : EReal) := by
  have := word_pow 127 (by omega) (by omega)
  rw [show IntOp.shli .vector (BitVec.ofNat 32 127) 23#32 = 0x3F800000#32 from rfl] at this
  rw [this]; norm_num
theorem min_word : Ideal.ofBits .f32 0x00800000#32 = (((2 : ℝ) ^ (-126 : ℤ) : ℝ) : EReal) := by
  have := word_pow 1 (by omega) (by omega)
  rw [show IntOp.shli .vector (BitVec.ofNat 32 1) 23#32 = 0x00800000#32 from rfl] at this
  rw [this]; norm_num

theorem exp2_int (n : ℤ) : Ideal.exp2 (((n : ℝ) : ℝ) : EReal) = (((2 : ℝ) ^ n : ℝ) : EReal) := by
  rw [Ideal.exp2_coe]
  congr 1
  exact Real.rpow_intCast 2 n

/-- Of a finite number below `2 ^ 126` in magnitude, the kernel's scale and its inverse are the powers of two of the
    reference's exponent. -/
theorem scale_eq (t : EReal) (a : ℝ) (ha : max t (-t) = (a : EReal)) (hb : a < (2 : ℝ) ^ (126 : ℤ)) :
    scl t = Ideal.exp2 (eR t) ∧ inv t = Ideal.exp2 (0 - eR t) := by
  by_cases hs : a < (2 : ℝ) ^ (-126 : ℤ)
  · have hc : cnt t = 0#32 := cnt_of t a ha 0 (by omega) (fun j hj => absurd hj (by omega))
      fun j _ => lt_of_lt_of_le hs (zpow_le_zpow_right₀ (by norm_num) (by omega))
    have h := scl_of t 126 (by omega) (by omega) (fld_zero t hc)
    have he : eR t = 0 := by
      unfold eR; rw [if_pos]; rw [ha, min_word]; exact EReal.coe_lt_coe_iff.mpr hs
    rw [h.1, h.2, he]
    have := exp2_int 0
    simp only [Int.cast_zero, EReal.coe_zero] at this
    rw [sub_zero, this]
    norm_num
  · rw [not_lt] at hs
    have ha0 : 0 < a := lt_of_lt_of_le (by positivity) hs
    obtain ⟨e, he1, he2⟩ : ∃ e : ℤ, (2 : ℝ) ^ e ≤ a ∧ a < (2 : ℝ) ^ (e + 1) := by
      obtain ⟨e, he⟩ := exists_mem_Ico_zpow ha0 (by norm_num : (1 : ℝ) < 2)
      exact ⟨e, he.1, he.2⟩
    have hlo : -126 ≤ e := by
      have : (2 : ℝ) ^ (-126 : ℤ) < (2 : ℝ) ^ (e + 1) := lt_of_le_of_lt hs he2
      have := (zpow_lt_zpow_iff_right₀ (by norm_num : (1 : ℝ) < 2)).mp this
      omega
    have hhi : e < 126 := (zpow_lt_zpow_iff_right₀ (by norm_num : (1 : ℝ) < 2)).mp (lt_of_le_of_lt he1 hb)
    obtain ⟨K, hK⟩ : ∃ K : ℕ, (K : ℤ) = e + 127 := ⟨(e + 127).toNat, by omega⟩
    have hc : cnt t = BitVec.ofNat 32 K := cnt_of t a ha K (by omega)
      (fun j hj => le_trans (zpow_le_zpow_right₀ (by norm_num) (by omega)) he1)
      (fun j hj => lt_of_lt_of_le he2 (zpow_le_zpow_right₀ (by norm_num) (by omega)))
    have h := scl_of t K (by omega) (by omega) (fld_pos t K (by omega) (by omega) hc)
    have hl2 : 0 < Real.log 2 := Real.log_pos (by norm_num)
    have hfl : ⌊Real.log a * (Real.log 2)⁻¹⌋ = e := by
      rw [Int.floor_eq_iff, ← div_eq_mul_inv]
      constructor
      · rw [le_div_iff₀ hl2, ← Real.log_zpow]
        exact Real.log_le_log (by positivity) he1
      · rw [div_lt_iff₀ hl2, show ((e : ℝ) + 1) = ((e + 1 : ℤ) : ℝ) by push_cast; ring, ← Real.log_zpow]
        exact Real.log_lt_log ha0 he2
    have he : eR t = (((e + 1 : ℤ) : ℝ) : EReal) := by
      unfold eR
      rw [if_neg (by rw [ha, min_word, EReal.coe_lt_coe_iff, not_lt]; exact hs), ha, two_word, one_word, Ideal.log_coe, Ideal.log_coe,
        if_neg (not_le.mpr ha0), if_neg (by norm_num)]
      unfold Ideal.div
      rw [if_neg (by rw [← EReal.coe_zero, EReal.coe_eq_coe_iff]; exact hl2.ne'), ← EReal.coe_inv, ← EReal.coe_mul]
      show ((((⌊Real.log a * (Real.log 2)⁻¹⌋ : ℤ) : ℝ) : EReal)) + _ = _
      rw [hfl, ← EReal.coe_add]
      push_cast; rfl
    rw [h.1, h.2, he]
    constructor
    · rw [exp2_int]; congr 2; omega
    · rw [show (0 : EReal) - (((e + 1 : ℤ) : ℝ) : EReal) = (((-(e + 1) : ℤ) : ℝ) : EReal) by
        rw [zero_sub, ← EReal.coe_neg]; push_cast; rfl, exp2_int]
      congr 2; omega

end Cert.KernelIdeal.Gen
-- ==== Proof.RefVal.lean ====
/- What the reference computes, element by element. -/
module

public import proofs.«01_k».proof.Proof.Gen.ReferenceIdeal.Frame
public import proofs.«01_k».proof.Proof.Power
public import Idealize.ShloMosaic.Lib.Pipeline.ValueKit.Point

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen (eR c448 clip)
set_option maxHeartbeats 2000000

/-- A single piece that covers everything. -/
theorem canon_whole {s : Shape} {e : EltTy} (off : Fin s.rank → ℕ) (hoff : ∀ a, off a = 0) (inb) (w : Vec Ideal s e) :
    View.canon (Val := Elt Ideal) [⟨Rect.unit (s := s) off s.size inb, w⟩] = w := by
  funext y
  have h := View.canon_cons_emb (Val := Elt Ideal) (Rect.unit (s := s) off s.size inb) w [] y
  have e : (Rect.unit (s := s) off s.size inb).idx y = y := funext fun a => Fin.ext (by
    show off a + 1 * (y a).val = _
    rw [hoff a]; omega)
  exact (congrArg _ e.symm).trans h

theorem ld_whole {s : Shape} {e : EltTy} (off : Fin s.rank → ℕ) (hoff : ∀ a, off a = 0) (inb) (w : Vec Ideal s e) :
    View.ld (Val := Elt Ideal) w (Rect.unit (s := s) off s.size inb) = w := by
  funext y
  exact congrArg w (funext fun a => Fin.ext (by
    show off a + 1 * (y a).val = _
    rw [hoff a]; omega))

/-- The number that row `R` takes its scale from. -/
def tR (x : Vec Ideal S40960x1536 .bf16) (R : Fin 40960) : EReal :=
  Finset.univ.fold max (Ideal.ofBits .f32 0xFF800000#32) (fun k : Fin 1536 => (FloatOps.absf (x (ix2 R k) : Ideal .f32) : Ideal .f32)) * c448

theorem cast_apply (v : FVec Ideal S40960 .f32) (r : Fin 40960) : shapeCast S40960x1 v shapeCasts_S40960_S40960x1 (ix2 r 0) = v (ix1 r) := by
  pointwise
theorem rowmax_apply (v : FVec Ideal S40960x1536 .f32) (r : Fin 40960) :
    multiReduction (F := Ideal) .maximumf [1] S40960 v 0xFF800000#32 reduces_S40960x1536_S40960 (.inl rfl) rfl (ix1 r)
      = Finset.univ.fold max (Ideal.ofBits .f32 0xFF800000#32) (fun k : Fin 1536 => v (ix2 r k)) := by
  pointwise

theorem pay2_at (x : Vec Ideal S40960x1536 .bf16) (R : Fin 40960) (k : Fin 1536) : k0_pay2 x (ix2 R k) = (x (ix2 R k) : Ideal .bf16) := by
  unfold k0_pay2
  pointwise

theorem eR_eq (t : Ideal .f32) : eR t = Scalar.select (FloatOps.cmpf .olt (FloatOps.absf t) (Ideal.ofBits .f32 0x00800000#32 : Ideal .f32)) (Ideal.ofBits .f32 0x00000000#32)
    (FloatOps.addf (FloatOps.floor (FloatOps.divf (FloatOps.log (FloatOps.absf t)) (FloatOps.log (Ideal.ofBits .f32 0x40000000#32 : Ideal .f32)))) (Ideal.ofBits .f32 0x3F800000#32)) := by
  unfold eR
  rw [Ideal.ofBits_zero_f32]
  by_cases h : max t (-t) < Ideal.ofBits .f32 0x00800000#32
  · rw [if_pos h]
    show _ = Scalar.select (BitVec.ofBool (decide (max t (-t) < Ideal.ofBits .f32 0x00800000#32))) _ _
    rw [decide_eq_true h]; rfl
  · rw [if_neg h]
    show _ = Scalar.select (BitVec.ofBool (decide (max t (-t) < Ideal.ofBits .f32 0x00800000#32))) _ _
    rw [decide_eq_false h]; rfl

theorem key3 (v : FVec Ideal S40960x1 .f32) (i : S40960x1.Idx) :
    select (cmpf .olt (absf (mulf v (broadcast S40960x1 (Scalar.ofBits .f32 0x3B124925#32 : Ideal .f32)))) (broadcast S40960x1 (Scalar.ofBits .f32 0x00800000#32 : Ideal .f32))) (broadcast S40960x1 (Scalar.ofBits .f32 0x00000000#32 : Ideal .f32))
      (addf (floor (divf (log (absf (mulf v (broadcast S40960x1 (Scalar.ofBits .f32 0x3B124925#32 : Ideal .f32))))) (log (broadcast S40960x1 (Scalar.ofBits .f32 0x40000000#32 : Ideal .f32))))) (broadcast S40960x1 (Scalar.ofBits .f32 0x3F800000#32 : Ideal .f32))) i
    = eR (FloatOps.mulf (F := Ideal) (v i) c448) := by
  rw [eR_eq]; rfl

theorem vmax_at (x : Vec Ideal S40960x1536 .bf16) (R : Fin 40960) :
    shapeCast S40960x1 (multiReduction (F := Ideal) .maximumf [1] S40960 (absf (k0_pay2 x)) 0xFF800000#32 reduces_S40960x1536_S40960 (.inl rfl) rfl) shapeCasts_S40960_S40960x1 (ix2 R 0)
      = Finset.univ.fold max (Ideal.ofBits .f32 0xFF800000#32) (fun k : Fin 1536 => (FloatOps.absf (x (ix2 R k) : Ideal .f32) : Ideal .f32)) := by
  have hk : ∀ k : Fin 1536, absf (k0_pay2 x) (ix2 R k) = (FloatOps.absf (x (ix2 R k) : Ideal .f32) : Ideal .f32) :=
    fun k => congrArg (FloatOps.absf (F := Ideal) (φ := .f32)) (pay2_at x R k)
  generalize absf (k0_pay2 x) = u at hk ⊢
  rw [cast_apply, rowmax_apply]
  exact Finset.fold_congr fun k _ => hk k

theorem pay3_apply (x : Vec Ideal S40960x1536 .bf16) (R : Fin 40960) : k0_pay3 x (ix2 R 0) = eR (tR x R) := by
  have h := vmax_at x R
  unfold k0_pay3 tR
  rw [← h]
  exact key3 _ _

theorem key4 (v : FVec Ideal S40960x1536 .f32) (e : FVec Ideal S40960x1 .f32) (R : Fin 40960) (k : Fin 1536) :
    truncf .fp8e4m3 (minimumf (broadcast S40960x1536 (Scalar.ofBits .f32 0x43E00000#32 : Ideal .f32)) (maximumf (broadcast S40960x1536 (Scalar.ofBits .f32 0xC3E00000#32 : Ideal .f32))
      (mulf v (broadcastTo S40960x1536 (exp2 (subf (broadcast S40960x1 (Scalar.ofBits .f32 0x00000000#32 : Ideal .f32)) e)) broadcasts_S40960x1_S40960x1536)))) bitsLt_fp8e4m3_f32 (ix2 R k)
    = clip (v (ix2 R k) * Ideal.exp2 (0 - e (ix2 R 0))) := by
  unfold clip
  pointwise
  rfl

theorem pay4_apply (x : Vec Ideal S40960x1536 .bf16) (R : Fin 40960) (k : Fin 1536) :
    k0_pay4 x (ix2 R k) = clip (x (ix2 R k) * Ideal.exp2 (0 - eR (tR x R))) := by
  have h3 := pay3_apply x R
  have h2 := pay2_at x R k
  unfold k0_pay4
  generalize k0_pay3 x = e at h3 ⊢
  generalize k0_pay2 x = v at h2 ⊢
  rw [← h3, ← h2]
  exact key4 v e R k

theorem pay1_gen (v : FVec Ideal S40960x1 .f32) (a : Fin 20) (b : Fin 2048) : k0_pay1 v (ix2 a b) = v (ix2 ⟨a.val * 2048 + b.val, by omega⟩ 0) := by
  unfold_payloads
  pointwise

theorem exp2_at (e : FVec Ideal S40960x1 .f32) (i : S40960x1.Idx) : exp2 e i = Ideal.exp2 (e i) := rfl

theorem pay5_apply (x : Vec Ideal S40960x1536 .bf16) (R : Fin 40960) : k0_pay5 x (ix2 R 0) = Ideal.exp2 (eR (tR x R)) := by
  have h3 := pay3_apply x R
  unfold k0_pay5
  generalize k0_pay3 x = e at h3 ⊢
  exact (exp2_at e _).trans (congrArg Ideal.exp2 h3)

theorem pay1_apply (x : Vec Ideal S40960x1536 .bf16) (a : Fin 20) (b : Fin 2048) :
    k0_pay1 (k0_pay5 x) (ix2 a b) = Ideal.exp2 (eR (tR x ⟨a.val * 2048 + b.val, by omega⟩)) :=
  (pay1_gen _ a b).trans (pay5_apply x _)

/-- The result before its quantisation. -/
def yR (x : Vec Ideal S40960x1536 .bf16) (w : Vec Ideal S1536x8960 .fp8e4m3) (ws : Vec Ideal S1x8960 .f32) (R : Fin 40960) (q : Fin 8960) : EReal :=
  (∑ k : Fin 1536, clip (x (ix2 R k) * Ideal.exp2 (0 - eR (tR x R))) * w (ix2 k q)) * Ideal.exp2 (eR (tR x R)) * ws (ix2 0 q)

theorem key6 (f : FVec Ideal S40960x1536 .fp8e4m3) (e : FVec Ideal S40960x1 .f32) (w : FVec Ideal S1536x8960 .fp8e4m3) (ws : FVec Ideal S1x8960 .f32) (R : Fin 40960) (q : Fin 8960) :
    mulf (mulf (matmul dot_S40960x1536_S1536x8960_S40960x8960_1_0_0_1_n_n none f w (constant S40960x8960 .f32 0x00000000#32)) (broadcastTo S40960x8960 e broadcasts_S40960x1_S40960x8960))
      (broadcastTo S40960x8960 (shapeCast S1x8960 ws shapeCasts_S1x8960_S1x8960) broadcasts_S1x8960_S40960x8960) (ix2 R q)
    = (∑ k : Fin 1536, (f (ix2 R k) : EReal) * w (ix2 k q)) * e (ix2 R 0) * ws (ix2 0 q) := by
  pointwise

theorem pay6_apply (x : Vec Ideal S40960x1536 .bf16) (w : Vec Ideal S1536x8960 .fp8e4m3) (ws : Vec Ideal S1x8960 .f32) (R : Fin 40960) (q : Fin 8960) :
    k0_pay6 x w ws (ix2 R q) = yR x w ws R q := by
  have h4 := pay4_apply x R
  have h5 := pay5_apply x R
  unfold k0_pay6 yR
  generalize k0_pay4 x = f at h4 ⊢
  generalize k0_pay5 x = e at h5 ⊢
  refine (key6 f e w ws R q).trans ?_
  rw [h5]
  exact congrArg (fun S : EReal => S * _ * _) (Finset.sum_congr rfl fun k _ => congrArg (fun z : EReal => z * _) (h4 k))

/-- The number that the result's scale is taken from. -/
def tHR (h : Vec Ideal S1x16 .f32) : EReal :=
  Finset.univ.fold max (Ideal.ofBits .f32 0xFF800000#32) (fun p : Fin 1 × Fin 16 => (h (ix2 0 p.2) : Ideal .f32)) * c448

theorem pay8_apply (h : Vec Ideal S1x16 .f32) : k0_pay8 (k0_pay7 h) (ix2 0 0) = eR (tHR h) := by
  unfold eR tHR
  unfold_payloads
  pointwise
  rfl

theorem pay9_apply (y : FVec Ideal S40960x8960 .f32) (h : Vec Ideal S1x16 .f32) (R : Fin 40960) (q : Fin 8960) :
    k0_pay9 y (k0_pay7 h) (ix2 R q) = clip (y (ix2 R q) * Ideal.exp2 (0 - eR (tHR h))) := by
  rw [← pay8_apply]
  unfold k0_pay9 clip
  generalize k0_pay8 (k0_pay7 h) = e
  pointwise
  rfl

theorem pay10_apply (h : Vec Ideal S1x16 .f32) : k0_pay10 (k0_pay7 h) (ix2 0 0) = Ideal.exp2 (eR (tHR h)) := by
  rw [← pay8_apply]; rfl

theorem pay11_apply (y : FVec Ideal S40960x8960 .f32) :
    k0_pay11 y (ix2 0 0) = Finset.univ.fold max (Ideal.ofBits .f32 0xFF800000#32) (fun p : Fin 40960 × Fin 8960 => (FloatOps.absf (y (ix2 p.1 p.2) : Ideal .f32) : Ideal .f32)) := by
  unfold_payloads
  pointwise

end Cert.ReferenceIdeal.Gen
-- ==== Proof.RefOut.lean ====
/- The arrays that the reference leaves. -/
module

public import proofs.«01_k».proof.Proof.RefVal
public import Idealize.ShloMosaic.Lib.Pipeline.ValueKit.Point

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

theorem ix_0 : ∀ t : Fin cfg0.N, win0_0.index t = ![0, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)

/-- The operands as the reference finds them. -/
def X2 (c : Dev nD) : Vec Ideal S40960x1536 .bf16 := V m c main_v0
def W1 (c : Dev nD) : Vec Ideal S1536x8960 .fp8e4m3 := V m c main_arg1
def W2 (c : Dev nD) : Vec Ideal S1x8960 .f32 := V m c main_v1
def H2 (c : Dev nD) : Vec Ideal S1x16 .f32 := V m c main_v2

theorem X2_at (c : Dev nD) (R : Fin 40960) (k : Fin 1536) :
    X2 m c (ix2 R k) = m ((c : Thread nD τ).loc main_arg0) (ix3 ⟨R.val / 2048, by omega⟩ ⟨R.val % 2048, by omega⟩ k) := by
  unfold X2
  entry_read
  pointwise
theorem W1_at (c : Dev nD) (k : Fin 1536) (q : Fin 8960) : W1 m c (ix2 k q) = m ((c : Thread nD τ).loc main_arg1) (ix2 k q) := by
  unfold W1
  rw [V_main_arg1 m c]
theorem W2_at (c : Dev nD) (q : Fin 8960) : W2 m c (ix2 0 q) = m ((c : Thread nD τ).loc main_arg2) (ix1 q) := by
  unfold W2
  entry_read
  pointwise
theorem H2_at (c : Dev nD) (k : Fin 16) : H2 m c (ix2 0 k) = m ((c : Thread nD τ).loc main_arg3) (ix1 k) := by
  unfold H2
  entry_read
  pointwise

theorem blk_0 (c : Dev nD) (t : Fin cfg0.N) : iblk m c 0 t = X2 m c := by
  unfold X2
  funext y
  blk_ext [iblk, ix_0 t]
theorem blk_1 (c : Dev nD) (t : Fin cfg0.N) : iblk m c 1 t = W1 m c := by
  unfold W1
  funext y
  blk_ext [iblk, ix_1 t]
theorem blk_2 (c : Dev nD) (t : Fin cfg0.N) : iblk m c 2 t = W2 m c := by
  unfold W2
  funext y
  blk_ext [iblk, ix_2 t]
theorem blk_3 (c : Dev nD) (t : Fin cfg0.N) : iblk m c 3 t = H2 m c := by
  unfold H2
  funext y
  blk_ext [iblk, ix_3 t]

theorem ldx (x : Vec Ideal S40960x1536 .bf16) : View.ld x r0_0 = x := ld_whole ![0, 0] (by decide) _ x
theorem ldw (x : Vec Ideal S1536x8960 .fp8e4m3) : View.ld x r0_1 = x := ld_whole ![0, 0] (by decide) _ x
theorem lds (x : Vec Ideal S1x8960 .f32) : View.ld x r0_2 = x := ld_whole ![0, 0] (by decide) _ x
theorem ldh (x : Vec Ideal S1x16 .f32) : View.ld x r0_3 = x := ld_whole ![0, 0] (by decide) _ x

theorem cw4 (v : Vec Ideal S40960x8960 .fp8e4m3) : View.canon (Val := Elt Ideal) [⟨r0_4, v⟩] = v := canon_whole (s := S40960x8960) ![0, 0] (by decide) _ v
theorem cw5 (v : Vec Ideal S1x1 .f32) : View.canon (Val := Elt Ideal) [⟨r0_5, v⟩] = v := canon_whole (s := S1x1) ![0, 0] (by decide) _ v
theorem cw7 (v : Vec Ideal S40960x1536 .fp8e4m3) : View.canon (Val := Elt Ideal) [⟨r0_0, v⟩] = v := canon_whole (s := S40960x1536) ![0, 0] (by decide) _ v
theorem cw8 (v : Vec Ideal S20x2048 .f32) : View.canon (Val := Elt Ideal) [⟨r0_6, v⟩] = v := canon_whole (s := S20x2048) ![0, 0] (by decide) _ v

theorem out4_eq (x0 : Vec Ideal S40960x1536 .bf16) (x1 : Vec Ideal S1536x8960 .fp8e4m3) (x2 : Vec Ideal S1x8960 .f32) (x3 : Vec Ideal S1x16 .f32) :
    out0_4 x0 x1 x2 x3 = k0_pay9 (k0_pay6 x0 x1 x2) (k0_pay7 x3) := by
  unfold out0_4 k0_pay12 k0_pay13
  rw [ldx, ldw, lds, ldh]
  exact cw4 _

theorem final4 (c : Dev nD) : (dats m 0 c).arrAt 4 cfg0.N = k0_pay9 (k0_pay6 (X2 m c) (W1 m c) (W2 m c)) (k0_pay7 (H2 m c)) := by
  refine (dats m 0 c).arrAt_eq_of_covers 4 _ (by decide +kernel) fun t hf y => ?_
  blk_simp [ix_4 t]
  rw [after0_4, out4_eq, blk_0, blk_1, blk_2, blk_3]
  generalize k0_pay9 (k0_pay6 (X2 m c) (W1 m c) (W2 m c)) (k0_pay7 (H2 m c)) = g
  blk_ext [ix_4 t]

theorem out5_eq (x0 : Vec Ideal S40960x1536 .bf16) (x1 : Vec Ideal S1536x8960 .fp8e4m3) (x2 : Vec Ideal S1x8960 .f32) (x3 : Vec Ideal S1x16 .f32) :
    out0_5 x0 x1 x2 x3 = k0_pay10 (k0_pay7 x3) := by
  unfold out0_5 k0_pay13
  rw [ldh]
  exact cw5 _

theorem final5 (c : Dev nD) : (dats m 0 c).arrAt 5 cfg0.N = k0_pay10 (k0_pay7 (H2 m c)) := by
  refine (dats m 0 c).arrAt_eq_of_covers 5 _ (by decide +kernel) fun t hf y => ?_
  blk_simp [ix_5 t]
  rw [after0_5, out5_eq, blk_3]
  generalize k0_pay10 (k0_pay7 (H2 m c)) = g
  blk_ext [ix_5 t]

theorem out6_eq (x0 : Vec Ideal S40960x1536 .bf16) (x1 : Vec Ideal S1536x8960 .fp8e4m3) (x2 : Vec Ideal S1x8960 .f32) (x3 : Vec Ideal S1x16 .f32) :
    out0_6 x0 x1 x2 x3 = k0_pay11 (k0_pay6 x0 x1 x2) := by
  unfold out0_6 k0_pay12
  rw [ldx, ldw, lds]
  exact cw5 _

theorem final6 (c : Dev nD) : (dats m 0 c).arrAt 6 cfg0.N = k0_pay11 (k0_pay6 (X2 m c) (W1 m c) (W2 m c)) := by
  refine (dats m 0 c).arrAt_eq_of_covers 6 _ (by decide +kernel) fun t hf y => ?_
  blk_simp [ix_6 t]
  rw [after0_6, out6_eq, blk_0, blk_1, blk_2]
  generalize k0_pay11 (k0_pay6 (X2 m c) (W1 m c) (W2 m c)) = g
  blk_ext [ix_6 t]

theorem out7_eq (x0 : Vec Ideal S40960x1536 .bf16) (x1 : Vec Ideal S1536x8960 .fp8e4m3) (x2 : Vec Ideal S1x8960 .f32) (x3 : Vec Ideal S1x16 .f32) :
    out0_7 x0 x1 x2 x3 = k0_pay4 x0 := by
  unfold out0_7
  rw [ldx]
  exact cw7 _

theorem final7 (c : Dev nD) : (dats m 0 c).arrAt 7 cfg0.N = k0_pay4 (X2 m c) := by
  refine (dats m 0 c).arrAt_eq_of_covers 7 _ (by decide +kernel) fun t hf y => ?_
  blk_simp [ix_7 t]
  rw [after0_7, out7_eq, blk_0]
  generalize k0_pay4 (X2 m c) = g
  blk_ext [ix_7 t]

theorem out8_eq (x0 : Vec Ideal S40960x1536 .bf16) (x1 : Vec Ideal S1536x8960 .fp8e4m3) (x2 : Vec Ideal S1x8960 .f32) (x3 : Vec Ideal S1x16 .f32) :
    out0_8 x0 x1 x2 x3 = k0_pay1 (k0_pay5 x0) := by
  unfold out0_8
  rw [ldx]
  exact cw8 _

theorem final8 (c : Dev nD) : (dats m 0 c).arrAt 8 cfg0.N = k0_pay1 (k0_pay5 (X2 m c)) := by
  refine (dats m 0 c).arrAt_eq_of_covers 8 _ (by decide +kernel) fun t hf y => ?_
  blk_simp [ix_8 t]
  rw [after0_8, out8_eq, blk_0]
  generalize k0_pay1 (k0_pay5 (X2 m c)) = g
  blk_ext [ix_8 t]

/-- What the reference's five results hold when it has run. -/
theorem run_values : θ_run defs (onTc (τ := τ) (main (F := Ideal))) ⟨m, fun _ => 0, ρ⟩ fun r => ∀ c : Dev nD,
      r.2.mem ((c : Thread nD τ).loc main_v3_0) = k0_pay9 (k0_pay6 (X2 m c) (W1 m c) (W2 m c)) (k0_pay7 (H2 m c))
      ∧ r.2.mem ((c : Thread nD τ).loc main_v3_1) = k0_pay10 (k0_pay7 (H2 m c))
      ∧ r.2.mem ((c : Thread nD τ).loc main_v3_2) = k0_pay11 (k0_pay6 (X2 m c) (W1 m c) (W2 m c))
      ∧ r.2.mem ((c : Thread nD τ).loc main_v3_3) = k0_pay4 (X2 m c)
      ∧ r.2.mem ((c : Thread nD τ).loc main_v3_4) = k0_pay1 (k0_pay5 (X2 m c)) :=
  (θ_run defs _ _).mono (fun r h c => ⟨((h c).1 4).trans (final4 m c), ((h c).1 5).trans (final5 m c),
      ((h c).1 6).trans (final6 m c), ((h c).1 7).trans (final7 m c), ((h c).1 8).trans (final8 m c)⟩)
    (run_main m ρ)

end Cert.ReferenceIdeal.Gen
-- ==== Proof.KIn.lean ====
/- The blocks that the kernel reads, as parts of the arrays. -/
module

public import proofs.«01_k».proof.Proof.State
public import Idealize.ShloMosaic.Lib.Pipeline.ValueKit.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

theorem ix_0 : ∀ t : Fin cfg0.N, win0_0.index t = ![0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![2 * t.val + 1, 0] := (by decide +kernel : ∀ t : Fin grid0.N, _)
theorem ix_3 : ∀ t : Fin cfg0.N, win0_3.index t = ![min (2 * t.val + 2) 79, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)

/-- The rows as one matrix, and the weights' scales as a row, as the kernel finds them. -/
def X2 (c : Dev nD) : Vec Ideal S40960x1536 .bf16 := V m c main_v0
def W2 (c : Dev nD) : Vec Ideal S1x8960 .f32 := V m c main_v1

theorem bX_at (c : Dev nD) (t : Fin cfg0.N) (r : Fin 512) (k : Fin 1536) :
    bX m c t (ix2 r k) = X2 m c (ix2 ⟨r.val, by omega⟩ k) := by
  unfold bX X2
  blk_ext [iblk, ix_1 t]

theorem bB_at (c : Dev nD) (t : Fin cfg0.N) (r : Fin 512) (k : Fin 1536) :
    bB m c t (ix2 r k) = X2 m c (ix2 ⟨1024 * t.val + 512 + r.val, by have := Nat.lt_of_lt_of_eq t.isLt N_0; omega⟩ k) := by
  unfold bB X2
  blk_ext [iblk, ix_2 t]

theorem bA_at (c : Dev nD) (t : Fin cfg0.N) (ht : t.val < 39) (r : Fin 512) (k : Fin 1536) :
    bA m c t (ix2 r k) = X2 m c (ix2 ⟨1024 * (t.val + 1) + r.val, by omega⟩ k) := by
  unfold bA X2
  blk_ext [iblk, ix_3 t]

theorem bW_at (c : Dev nD) (t : Fin cfg0.N) (k : Fin 1536) (q : Fin 8960) :
    bW m c t (ix2 k q) = m ((c : Thread nD τ).loc main_arg1) (ix2 k q) := by
  unfold bW
  rw [← V_main_arg1 m c]
  blk_ext [iblk, ix_4 t]

theorem bWs_at (c : Dev nD) (t : Fin cfg0.N) (q : Fin 8960) :
    bWs m c t (ix2 0 q) = W2 m c (ix2 0 q) := by
  unfold bWs W2
  blk_ext [iblk, ix_5 t]

theorem bH_at (c : Dev nD) (t : Fin cfg0.N) (k : Fin 16) :
    bH m c t (ix1 k) = m ((c : Thread nD τ).loc main_arg3) (ix1 k) := by
  unfold bH
  rw [← V_main_arg3 m c]
  blk_ext [iblk, ix_0 t]

theorem X2_at (c : Dev nD) (R : Fin 40960) (k : Fin 1536) :
    X2 m c (ix2 R k) = m ((c : Thread nD τ).loc main_arg0) (ix3 ⟨R.val / 2048, by omega⟩ ⟨R.val % 2048, by omega⟩ k) := by
  unfold X2
  entry_read
  pointwise

theorem W2_at (c : Dev nD) (q : Fin 8960) :
    W2 m c (ix2 0 q) = m ((c : Thread nD τ).loc main_arg2) (ix1 q) := by
  unfold W2
  entry_read
  pointwise

end Cert.KernelIdeal.Gen
-- ==== Proof.Range.lean ====
/- The finite range, and blocks of rows: where the two programs agree. -/
module

public import proofs.«01_k».proof.Proof.Spec
public import proofs.«01_k».proof.Proof.RefVal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal.Gen (tR yR tHR)

/-- Two arrays of two axes that agree at every pair of coordinates. -/
theorem ext2 {a b : ℕ} {α : Type} (f g : (⟨2, ![a, b]⟩ : Shape).Idx → α) (h : ∀ i j, f (ix2 i j) = g (ix2 i j)) : f = g := by
  funext y
  have e : y = ix2 (y 0) (y 1) := funext fun a => match a with | ⟨0, _⟩ => rfl | ⟨1, _⟩ => rfl
  rw [e]
  exact h _ _

theorem bot_word : Ideal.ofBits .f32 0xFF800000#32 = ⊥ := by
  rw [ofBits_ieee]; simp [Ideal.ieee]

/-- The largest finite number. -/
def fMax : EReal := Ideal.ofBits .f32 0x7F7FFFFF#32

theorem fMax_eq : fMax = ((16777215 * 2 ^ 104 : ℝ) : EReal) := by
  unfold fMax
  rw [ofBits_ieee]
  simp [Ideal.ieee]

theorem c448_eq : ∃ a : ℝ, c448 = (a : EReal) ∧ 0 ≤ a ∧ a ≤ 1 / 256 := by
  refine ⟨9586981 * (2 : ℝ) ^ (-32 : ℤ), ?_, by positivity, by norm_num⟩
  unfold c448
  rw [ofBits_ieee]
  simp [Ideal.ieee]

/-- A largest magnitude in the finite range gives a number whose scale and inverse both programs agree on. -/
theorem scale_ok (M : EReal) (hl : -fMax ≤ M) (hu : M ≤ fMax) :
    scl (M * c448) = Ideal.exp2 (eR (M * c448)) ∧ inv (M * c448) = Ideal.exp2 (0 - eR (M * c448)) := by
  obtain ⟨a, ha, ha0, ha1⟩ := c448_eq
  rw [fMax_eq] at hl hu
  obtain ⟨b, rfl⟩ : ∃ b : ℝ, M = (b : EReal) := by
    induction M using EReal.rec with
    | bot => exact absurd hl (by rw [← EReal.coe_neg]; exact not_le.mpr (EReal.bot_lt_coe _))
    | top => exact absurd hu (not_le.mpr (EReal.coe_lt_top _))
    | coe b => exact ⟨b, rfl⟩
  rw [← EReal.coe_neg, EReal.coe_le_coe_iff] at hl
  rw [EReal.coe_le_coe_iff] at hu
  rw [ha, ← EReal.coe_mul]
  refine scale_eq _ |b * a| ?_ ?_
  · rw [← EReal.coe_neg]
    rcases le_total 0 (b * a) with h | h
    · rw [abs_of_nonneg h, max_eq_left]; exact EReal.coe_le_coe_iff.mpr (by linarith)
    · rw [abs_of_nonpos h, max_eq_right]; exact EReal.coe_le_coe_iff.mpr (by linarith)
  · have hb : |b| ≤ 16777215 * 2 ^ 104 := abs_le.mpr ⟨hl, hu⟩
    rw [abs_mul, abs_of_nonneg ha0]
    calc |b| * a ≤ (16777215 * 2 ^ 104) * (1 / 256) := mul_le_mul hb ha1 ha0 (by norm_num)
      _ < (2 : ℝ) ^ (126 : ℤ) := by norm_num

theorem abs_nonneg' (v : Ideal .f32) : (0 : EReal) ≤ FloatOps.absf v := by
  show (0 : EReal) ≤ max v (-v)
  rcases le_total 0 v with h | h
  · exact le_max_of_le_left h
  · exact le_max_of_le_right (by rw [EReal.neg_nonneg]; exact h)

theorem neg_fMax : -fMax ≤ (0 : EReal) := by
  rw [fMax_eq, ← EReal.coe_neg, ← EReal.coe_zero, EReal.coe_le_coe_iff]; norm_num

/-- Every row's scale: the two programs agree. -/
theorem rows_ok (X : Vec Ideal S40960x1536 .bf16) (hX : ∀ R k, (FloatOps.absf (X (ix2 R k) : Ideal .f32) : Ideal .f32) ≤ fMax) (R : Fin 40960) :
    scl (tR X R) = Ideal.exp2 (eR (tR X R)) ∧ inv (tR X R) = Ideal.exp2 (0 - eR (tR X R)) := by
  unfold tR
  refine scale_ok _ (neg_fMax.trans ?_) ?_
  · exact (Finset.le_fold_max _).mpr (Or.inr ⟨0, Finset.mem_univ _, abs_nonneg' _⟩)
  · exact (Finset.fold_max_le _).mpr ⟨by rw [bot_word]; exact bot_le, fun k _ => hX R k⟩

theorem nest16 (g : Fin 16 → EReal) :
    max (max (max (max (max (max (max (max (max (max (max (max (max (max (max (g 0) (g 1)) (g 2)) (g 3)) (g 4)) (g 5)) (g 6)) (g 7)) (g 8)) (g 9)) (g 10)) (g 11)) (g 12)) (g 13)) (g 14)) (g 15)
      = Finset.univ.fold max (Ideal.ofBits .f32 0xFF800000#32) (fun p : Fin 1 × Fin 16 => g p.2) := by
  apply le_antisymm
  · have h : ∀ k : Fin 16, g k ≤ Finset.univ.fold max (Ideal.ofBits .f32 0xFF800000#32) (fun p : Fin 1 × Fin 16 => g p.2) :=
      fun k => (Finset.le_fold_max _).mpr (Or.inr ⟨(0, k), Finset.mem_univ _, le_rfl⟩)
    simp only [max_le_iff, h, and_self]
  · refine (Finset.fold_max_le _).mpr ⟨by rw [bot_word]; exact bot_le, fun p _ => ?_⟩
    have h : ∀ k : Fin 16, g k ≤ max (max (max (max (max (max (max (max (max (max (max (max (max (max (max (g 0) (g 1)) (g 2)) (g 3)) (g 4)) (g 5)) (g 6)) (g 7)) (g 8)) (g 9)) (g 10)) (g 11)) (g 12)) (g 13)) (g 14)) (g 15) := by
      intro k
      fin_cases k <;> simp [le_max_iff]
    exact h p.2

theorem tH_eq (h : Vec Ideal S16 .f32) (h2 : Vec Ideal (⟨2, ![1, 16]⟩ : Shape) .f32) (e : ∀ k : Fin 16, h2 (ix2 0 k) = h (ix1 k)) : tH h = tHR h2 := by
  unfold tH tHR
  rw [nest16 fun k => h (ix1 k)]
  congr 1
  exact Finset.fold_congr fun p _ => (e p.2).symm

/-- The result's scale: the two programs agree. -/
theorem hist_ok (h2 : Vec Ideal (⟨2, ![1, 16]⟩ : Shape) .f32) (hh : ∀ k, (FloatOps.absf (h2 (ix2 0 k) : Ideal .f32) : Ideal .f32) ≤ fMax) :
    scl (tHR h2) = Ideal.exp2 (eR (tHR h2)) ∧ inv (tHR h2) = Ideal.exp2 (0 - eR (tHR h2)) := by
  have hm : ∀ k, max (h2 (ix2 0 k) : EReal) (-h2 (ix2 0 k)) ≤ fMax := hh
  unfold tHR
  refine scale_ok _ ?_ ?_
  · refine (Finset.le_fold_max _).mpr (Or.inr ⟨(0, 0), Finset.mem_univ _, ?_⟩)
    exact EReal.neg_le.mp ((le_max_right _ _).trans (hm 0))
  · exact (Finset.fold_max_le _).mpr ⟨by rw [bot_word]; exact bot_le, fun p _ => (le_max_left _ _).trans (hm p.2)⟩

/-! ## Blocks of rows -/

/-- The block `x` is the rows from `n` of `X`. -/
def IsRows (x : Vec Ideal S512x1536 .bf16) (X : Vec Ideal S40960x1536 .bf16) (n : ℕ) : Prop :=
  ∀ (r : Fin 512) (R : Fin 40960) (k : Fin 1536), R.val = n + r.val → x (ix2 r k) = X (ix2 R k)

variable {x : Vec Ideal S512x1536 .bf16} {X : Vec Ideal S40960x1536 .bf16} {n : ℕ}

theorem tX_rows (h : IsRows x X n) (r : Fin 512) (R : Fin 40960) (e : R.val = n + r.val) : tX x r = tR X R := by
  unfold tX tR
  congr 1
  exact Finset.fold_congr fun k _ => congrArg (FloatOps.absf (F := Ideal) (φ := .f32)) (h r R k e)

theorem xc_rows (h : IsRows x X n) (hX : ∀ R k, (FloatOps.absf (X (ix2 R k) : Ideal .f32) : Ideal .f32) ≤ fMax) (r : Fin 512) (R : Fin 40960) (k : Fin 1536) (e : R.val = n + r.val) :
    xcOf x (ix2 r k) = clip (X (ix2 R k) * Ideal.exp2 (0 - eR (tR X R))) := by
  show clip (x (ix2 r k) * inv (tX x r)) = _
  rw [h r R k e, tX_rows h r R e, (rows_ok X hX R).2]

theorem xs_rows (h : IsRows x X n) (hX : ∀ R k, (FloatOps.absf (X (ix2 R k) : Ideal .f32) : Ideal .f32) ≤ fMax) (r : Fin 512) (R : Fin 40960) (q : Fin 128) (e : R.val = n + r.val) :
    xsOf x (ix2 r q) = Ideal.exp2 (eR (tR X R)) := by
  show scl (tX x r) = _
  rw [tX_rows h r R e, (rows_ok X hX R).1]

theorem y_rows (h : IsRows x X n) (hX : ∀ R k, (FloatOps.absf (X (ix2 R k) : Ideal .f32) : Ideal .f32) ≤ fMax) (w W : Vec Ideal S1536x8960 .fp8e4m3) (ws Ws : Vec Ideal S1x8960 .f32)
    (hw : ∀ k q, w (ix2 k q) = W (ix2 k q)) (hs : ∀ q, ws (ix2 0 q) = Ws (ix2 0 q)) (r : Fin 512) (R : Fin 40960) (q : Fin 8960) (e : R.val = n + r.val) :
    yOf (xcOf x) (xsOf x) w ws r q = yR X W Ws R q := by
  unfold yOf yR
  rw [xs_rows h hX r R _ e, hs q]
  refine congrArg (fun S : EReal => S * _ * _) (Finset.sum_congr rfl fun k _ => ?_)
  rw [xc_rows h hX r R k e, hw]

end Cert.KernelIdeal.Gen
-- ==== Proof.Rows.lean ====
/- Blocks of the matrix of rows, and maxima of families. -/
module

public import proofs.«01_k».proof.Proof.KIn
public import proofs.«01_k».proof.Proof.KOut
public import proofs.«01_k».proof.Proof.Range

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Cert.ReferenceIdeal.Gen (tR yR tHR)

set_option maxHeartbeats 400000

/-- The rows hold numbers of the finite range. -/
def Fin2 (X : Vec Ideal S40960x1536 .bf16) : Prop := ∀ R k, (FloatOps.absf (X (ix2 R k) : Ideal .f32) : Ideal .f32) ≤ fMax

theorem XAn_rows (c : Dev nD) (n : ℕ) (hn : n < 40) : IsRows (XAn m c n) (X2 m c) (1024 * n) := by
  intro r R k e
  cases n with
  | zero =>
    refine (bX_at m c (pt 0) r k).trans (congrArg (fun z => X2 m c (ix2 z k)) (Fin.ext ?_))
    show r.val = R.val
    omega
  | succ n =>
    have hp : (pt n).val = n := Nat.mod_eq_of_lt (by omega)
    refine (bA_at m c (pt n) (by omega) r k).trans (congrArg (fun z => X2 m c (ix2 z k)) (Fin.ext ?_))
    show 1024 * ((pt n).val + 1) + r.val = R.val
    omega

theorem bB_rows (c : Dev nD) (t : Fin cfg0.N) : IsRows (bB m c t) (X2 m c) (1024 * t.val + 512) := by
  intro r R k e
  refine (bB_at m c t r k).trans (congrArg (fun z => X2 m c (ix2 z k)) (Fin.ext ?_))
  show 1024 * t.val + 512 + r.val = R.val
  omega

/-- Two maxima of families that bound each other. -/
theorem fold_eq_fold {ι κ : Type} [Fintype ι] [Fintype κ] (f : ι → EReal) (g : κ → EReal) (h1 : ∀ Y, (∀ k, g k ≤ Y) → ∀ i, f i ≤ Y)
    (h2 : ∀ k, ∃ i, g k ≤ f i) :
    Finset.univ.fold max (Ideal.ofBits .f32 0xFF800000#32) f = Finset.univ.fold max (Ideal.ofBits .f32 0xFF800000#32) g := by
  apply le_antisymm
  · refine (Finset.fold_max_le _).mpr ⟨by rw [bot_word]; exact bot_le, fun i _ => h1 _ (fun k => ?_) i⟩
    exact (Finset.le_fold_max _).mpr (Or.inr ⟨k, Finset.mem_univ _, le_rfl⟩)
  · refine (Finset.fold_max_le _).mpr ⟨by rw [bot_word]; exact bot_le, fun k _ => ?_⟩
    obtain ⟨i, hi⟩ := h2 k
    exact (Finset.le_fold_max _).mpr (Or.inr ⟨i, Finset.mem_univ _, hi⟩)

end Cert.KernelIdeal.Gen
-- ==== Proof.EqRows.lean ====
/- The codes and the scales of the rows: the kernel leaves the reference's. -/
module

public import proofs.«01_k».proof.Proof.Rows

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Cert.ReferenceIdeal.Gen (tR yR tHR)

set_option maxHeartbeats 400000

/-- The codes of the rows. -/
theorem G9_eq (c : Dev nD) (hX : Fin2 (X2 m c)) : G9 m c = Cert.ReferenceIdeal.Gen.k0_pay4 (X2 m c) := by
  refine ext2 _ _ fun R k => ?_
  rw [Cert.ReferenceIdeal.Gen.pay4_apply]
  unfold G9 o9 xcPair
  have hR : R.val < 40960 := R.isLt
  have hp : (pt (R.val / 1024)).val = R.val / 1024 := Nat.mod_eq_of_lt (by omega)
  by_cases h : R.val % 1024 < 512
  · refine (dif_pos h).trans ?_
    exact xc_rows (XAn_rows m c _ (by show (pt (R.val / 1024)).val < 40; omega)) hX ⟨R.val % 1024, h⟩ R k (by show R.val = 1024 * (pt (R.val / 1024)).val + R.val % 1024; omega)
  · refine (dif_neg h).trans ?_
    exact xc_rows (bB_rows m c _) hX ⟨R.val % 1024 - 512, by omega⟩ R k (by show R.val = 1024 * (pt (R.val / 1024)).val + 512 + (R.val % 1024 - 512); omega)

/-- The scales of the rows. -/
theorem o10_eq (c : Dev nD) (hX : Fin2 (X2 m c)) : o10 m c = Cert.ReferenceIdeal.Gen.k0_pay1 (Cert.ReferenceIdeal.Gen.k0_pay5 (X2 m c)) := by
  refine ext2 _ _ fun a b => ?_
  rw [Cert.ReferenceIdeal.Gen.pay1_apply]
  have ha : a.val < 20 := a.isLt
  have hb : b.val < 2048 := b.isLt
  unfold o10 xsOut rowAt
  generalize hR : (⟨a.val * 2048 + b.val, by omega⟩ : Fin 40960) = R
  have eR' : R.val = a.val * 2048 + b.val := by rw [← hR]
  have hp : (pt ((16 * a.val + b.val / 128) / 8)).val = (16 * a.val + b.val / 128) / 8 := Nat.mod_eq_of_lt (by omega)
  by_cases h : (16 * a.val + b.val / 128) % 8 < 4
  · refine (if_pos h).trans ?_
    exact xs_rows (XAn_rows m c _ (by show (16 * a.val + b.val / 128) / 8 < 40; omega)) hX _ R _
      (by show R.val = 1024 * ((16 * a.val + b.val / 128) / 8) + (128 * ((16 * a.val + b.val / 128) % 8) + b.val % 128) % 512; omega)
  · refine (if_neg h).trans ?_
    exact xs_rows (bB_rows m c _) hX _ R _
      (by show R.val = 1024 * (pt ((16 * a.val + b.val / 128) / 8)).val + 512 + (128 * ((16 * a.val + b.val / 128) % 8 - 4) + b.val % 128) % 512; omega)

end Cert.KernelIdeal.Gen
-- ==== Proof.EqResult.lean ====
/- The codes and the scale of the result: the kernel leaves the reference's. -/
module

public import proofs.«01_k».proof.Proof.Rows

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Cert.ReferenceIdeal.Gen (tR yR tHR)

set_option maxHeartbeats 400000

variable (W : Vec Ideal S1536x8960 .fp8e4m3) (Ws : Vec Ideal S1x8960 .f32) (H : Vec Ideal (⟨2, ![1, 16]⟩ : Shape) .f32)

/-- The scale of the result. -/
theorem o7_eq (c : Dev nD) (hH : ∀ k, H (ix2 0 k) = m ((c : Thread nD τ).loc main_arg3) (ix1 k))
    (hh : ∀ k, (FloatOps.absf (H (ix2 0 k) : Ideal .f32) : Ideal .f32) ≤ fMax) : o7 m c = Cert.ReferenceIdeal.Gen.k0_pay10 (Cert.ReferenceIdeal.Gen.k0_pay7 H) := by
  refine ext2 _ _ fun z z' => ?_
  rw [show z = 0 from Subsingleton.elim _ _, show z' = 0 from Subsingleton.elim _ _]
  refine Eq.trans ?_ (Cert.ReferenceIdeal.Gen.pay10_apply H).symm
  show scl (tH (bH m c (pt 0))) = _
  rw [tH_eq (bH m c (pt 0)) H (fun k => (hH k).trans (bH_at m c _ k).symm), (hist_ok H hh).1]

/-- The codes of the result. -/
theorem G6_eq (c : Dev nD) (hX : Fin2 (X2 m c)) (hW : ∀ k q, m ((c : Thread nD τ).loc main_arg1) (ix2 k q) = W (ix2 k q))
    (hH : ∀ k, H (ix2 0 k) = m ((c : Thread nD τ).loc main_arg3) (ix1 k))
    (hh : ∀ k, (FloatOps.absf (H (ix2 0 k) : Ideal .f32) : Ideal .f32) ≤ fMax) :
    G6 m c = Cert.ReferenceIdeal.Gen.k0_pay9 (Cert.ReferenceIdeal.Gen.k0_pay6 (X2 m c) W (W2 m c)) (Cert.ReferenceIdeal.Gen.k0_pay7 H) := by
  refine ext2 _ _ fun R q => ?_
  rw [Cert.ReferenceIdeal.Gen.pay9_apply, Cert.ReferenceIdeal.Gen.pay6_apply, ← (hist_ok H hh).2]
  show o6 m c (pt (R.val / 1024)) (ix2 ⟨R.val % 1024, Nat.mod_lt _ (by omega)⟩ q) = _
  have hR : R.val < 40960 := R.isLt
  generalize ht : pt (R.val / 1024) = t
  have hp : t.val = R.val / 1024 := by rw [← ht]; exact Nat.mod_eq_of_lt (by omega)
  unfold o6
  rw [← tH_eq (bH m c t) H (fun k => (hH k).trans (bH_at m c _ k).symm)]
  have hw : ∀ k q, bW m c t (ix2 k q) = W (ix2 k q) := fun k q => (bW_at m c t k q).trans (hW k q)
  by_cases h : R.val % 1024 < 512
  · refine (ycOf_upper _ _ _ _ _ _ _ _ ⟨R.val % 1024, h⟩ q rfl rfl).trans ?_
    exact congrArg (fun z : EReal => clip (z * inv (tH (bH m c t)))) (y_rows (XAn_rows m c t.val (by omega)) hX (bW m c t) W (bWs m c t) (W2 m c) hw (bWs_at m c t) ⟨R.val % 1024, h⟩ R q (by show R.val = 1024 * t.val + R.val % 1024; omega))
  · refine (ycOf_lower _ _ _ _ _ _ _ _ ⟨R.val % 1024 - 512, by omega⟩ q (by show R.val % 1024 = 512 + (R.val % 1024 - 512); omega) rfl).trans ?_
    exact congrArg (fun z : EReal => clip (z * inv (tH (bH m c t)))) (y_rows (bB_rows m c t) hX (bW m c t) W (bWs m c t) (W2 m c) hw (bWs_at m c t) ⟨R.val % 1024 - 512, by omega⟩ R q (by show R.val = 1024 * t.val + 512 + (R.val % 1024 - 512); omega))

end Cert.KernelIdeal.Gen
-- ==== Proof.Maxima.lean ====
/- The running maxima against the magnitudes of the result. -/
module

public import proofs.«01_k».proof.Proof.Rows

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Cert.ReferenceIdeal.Gen (tR yR tHR)

set_option maxHeartbeats 400000

variable (W : Vec Ideal S1536x8960 .fp8e4m3) (Ws : Vec Ideal S1x8960 .f32)

/-! The largest magnitude of the result. -/

/-- The magnitude of an element of the result. -/
def magR (X : Vec Ideal S40960x1536 .bf16) (R : Fin 40960) (q : Fin 8960) : EReal := (FloatOps.absf (yR X W Ws R q : Ideal .f32) : Ideal .f32)

variable {W Ws} {x : Vec Ideal S512x1536 .bf16} {X : Vec Ideal S40960x1536 .bf16} {n : ℕ}

theorem aOf_le (h : IsRows x X n) (hX : Fin2 X) (hn : n + 512 ≤ 40960) (w : Vec Ideal S1536x8960 .fp8e4m3) (ws : Vec Ideal S1x8960 .f32)
    (hw : ∀ k q, w (ix2 k q) = W (ix2 k q)) (hs : ∀ q, ws (ix2 0 q) = Ws (ix2 0 q)) (r : Fin 8) (q : Fin 8960) (Y : EReal)
    (hY : ∀ R q, magR W Ws X R q ≤ Y) : aOf (xcOf x) (xsOf x) w ws r q ≤ Y := by
  refine (Finset.fold_max_le _).mpr ⟨by rw [bot_word]; exact bot_le, fun k _ => ?_⟩
  rw [y_rows h hX w W ws Ws hw hs ⟨k.val * 8 + r.val, by omega⟩ ⟨n + (k.val * 8 + r.val), by omega⟩ q rfl]
  exact hY _ _

theorem le_aOf (h : IsRows x X n) (hX : Fin2 X) (w : Vec Ideal S1536x8960 .fp8e4m3) (ws : Vec Ideal S1x8960 .f32)
    (hw : ∀ k q, w (ix2 k q) = W (ix2 k q)) (hs : ∀ q, ws (ix2 0 q) = Ws (ix2 0 q)) (R : Fin 40960) (k : Fin 64) (r : Fin 8) (q : Fin 8960)
    (e : R.val = n + (k.val * 8 + r.val)) : magR W Ws X R q ≤ aOf (xcOf x) (xsOf x) w ws r q := by
  refine (Finset.le_fold_max _).mpr (Or.inr ⟨k, Finset.mem_univ _, ?_⟩)
  rw [y_rows h hX w W ws Ws hw hs ⟨k.val * 8 + r.val, by omega⟩ R q e]
  exact le_rfl

theorem am_succ (c : Dev nD) (n : ℕ) (r : Fin 8) (q : Fin 8960) : am m c (n + 1) (ix2 r q)
    = max (max (am m c n (ix2 r q)) (aOf (xcOf (XAn m c n)) (xsOf (XAn m c n)) (bW m c (pt n)) (bWs m c (pt n)) r q))
        (aOf (xcOf (bB m c (pt n))) (xsOf (bB m c (pt n))) (bW m c (pt n)) (bWs m c (pt n)) r q) := rfl

theorem am_mono (c : Dev nD) (r : Fin 8) (q : Fin 8960) (n d : ℕ) : am m c n (ix2 r q) ≤ am m c (n + d) (ix2 r q) := by
  induction d with
  | zero => exact le_rfl
  | succ d ih =>
    refine ih.trans ?_
    rw [← Nat.add_assoc, am_succ]
    exact (le_max_left _ _).trans (le_max_left _ _)

variable (W)

theorem am_le (c : Dev nD) (hX : Fin2 (X2 m c)) (hW : ∀ k q, m ((c : Thread nD τ).loc main_arg1) (ix2 k q) = W (ix2 k q))
    (Y : EReal) (hY : ∀ R q, magR W (W2 m c) (X2 m c) R q ≤ Y) (r : Fin 8) (q : Fin 8960) (n : ℕ) (hn : n ≤ 40) : am m c n (ix2 r q) ≤ Y := by
  induction n with
  | zero => exact (abs_nonneg' _).trans (hY 0 q)
  | succ n ih =>
    have hp : (pt n).val = n := Nat.mod_eq_of_lt (by omega)
    rw [am_succ]
    have hw : ∀ k q, bW m c (pt n) (ix2 k q) = W (ix2 k q) := fun k q => (bW_at m c _ k q).trans (hW k q)
    exact max_le (max_le (ih (by omega)) (aOf_le (XAn_rows m c n (by omega)) hX (by omega) _ _ hw (bWs_at m c _) r q Y hY))
      (aOf_le (bB_rows m c (pt n)) hX (by omega) _ _ hw (bWs_at m c _) r q Y hY)

theorem le_am (c : Dev nD) (hX : Fin2 (X2 m c)) (hW : ∀ k q, m ((c : Thread nD τ).loc main_arg1) (ix2 k q) = W (ix2 k q))
    (R : Fin 40960) (q : Fin 8960) : magR W (W2 m c) (X2 m c) R q ≤ am m c 40 (ix2 ⟨R.val % 8, Nat.mod_lt _ (by omega)⟩ q) := by
  have hR : R.val < 40960 := R.isLt
  obtain ⟨n, hn⟩ : ∃ n, n = R.val / 1024 := ⟨_, rfl⟩
  have hp : (pt n).val = n := Nat.mod_eq_of_lt (by omega)
  have hw : ∀ k q, bW m c (pt n) (ix2 k q) = W (ix2 k q) := fun k q => (bW_at m c _ k q).trans (hW k q)
  have h40 : n + 1 + (39 - n) = 40 := by omega
  refine le_trans ?_ (le_of_le_of_eq (am_mono m c _ q (n + 1) (39 - n)) (by rw [h40]))
  rw [am_succ]
  by_cases h : R.val % 1024 < 512
  · refine le_trans ?_ ((le_max_right _ _).trans (le_max_left _ _))
    exact le_aOf (XAn_rows m c n (by omega)) hX _ _ hw (bWs_at m c _) R ⟨R.val % 1024 / 8, by omega⟩ _ q
      (by show R.val = 1024 * n + (R.val % 1024 / 8 * 8 + R.val % 8); omega)
  · refine le_trans ?_ (le_max_right _ _)
    exact le_aOf (bB_rows m c (pt n)) hX _ _ hw (bWs_at m c _) R ⟨(R.val % 1024 - 512) / 8, by omega⟩ _ q
      (by show R.val = 1024 * (pt n).val + 512 + ((R.val % 1024 - 512) / 8 * 8 + R.val % 8); omega)

end Cert.KernelIdeal.Gen
-- ==== Proof.EqMax.lean ====
/- The largest magnitude of the result: the kernel leaves the reference's. -/
module

public import proofs.«01_k».proof.Proof.Maxima

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Cert.ReferenceIdeal.Gen (tR yR tHR)

set_option maxHeartbeats 400000

variable (W : Vec Ideal S1536x8960 .fp8e4m3)

/-- The largest magnitude of the result: the kernel's running maxima, joined, are the reference's maximum. -/
theorem o8_eq (c : Dev nD) (hX : Fin2 (X2 m c)) (hW : ∀ k q, m ((c : Thread nD τ).loc main_arg1) (ix2 k q) = W (ix2 k q)) :
    o8 m c = Cert.ReferenceIdeal.Gen.k0_pay11 (Cert.ReferenceIdeal.Gen.k0_pay6 (X2 m c) W (W2 m c)) := by
  have e : ∀ R q, (FloatOps.absf (Cert.ReferenceIdeal.Gen.k0_pay6 (X2 m c) W (W2 m c) (ix2 R q) : Ideal .f32) : Ideal .f32) = magR W (W2 m c) (X2 m c) R q :=
    fun R q => congrArg (FloatOps.absf (F := Ideal) (φ := .f32)) (Cert.ReferenceIdeal.Gen.pay6_apply _ _ _ _ _)
  generalize Cert.ReferenceIdeal.Gen.k0_pay6 (X2 m c) W (W2 m c) = y at e ⊢
  refine ext2 _ _ fun z z' => ?_
  rw [show z = 0 from Subsingleton.elim _ _, show z' = 0 from Subsingleton.elim _ _]
  refine Eq.trans ?_ (Cert.ReferenceIdeal.Gen.pay11_apply y).symm
  unfold o8
  exact fold_eq_fold (fun p : Fin 8 × Fin 8960 => am m c 40 (ix2 p.1 p.2)) (fun p : Fin 40960 × Fin 8960 => (FloatOps.absf (y (ix2 p.1 p.2) : Ideal .f32) : Ideal .f32))
    (fun Y hY p => am_le m W c hX hW Y (fun R q => (e R q).symm.le.trans (hY (R, q))) p.1 p.2 40 le_rfl)
    (fun p => ⟨(⟨p.1.val % 8, Nat.mod_lt _ (by omega)⟩, p.2), (e p.1 p.2).le.trans (le_am m W c hX hW p.1 p.2)⟩)

end Cert.KernelIdeal.Gen
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.KFrame
public import proofs.«01_k».proof.Proof.Run
public import proofs.«01_k».proof.Proof.KOut
public import proofs.«01_k».proof.Proof.RefOut
public import proofs.«01_k».proof.Proof.EqRows
public import proofs.«01_k».proof.Proof.EqResult
public import proofs.«01_k».proof.Proof.EqMax
public import Idealize.ShloMosaic.Adequacy
public import Idealize.ShloMosaic.Init

@[expose] public section

noncomputable section

namespace Cert.Proof

open Idealize.ShloMosaic Idealize.SL.Sem Cert.Kernel

/-- A comparison that answers one holds. -/
theorem le_of_ofBool {a b : EReal} (h : BitVec.ofBool (decide (a ≤ b)) = 1#1) : a ≤ b := by
  by_contra hc
  rw [decide_eq_false hc] at h
  exact absurd h (by decide)

/-- What the precondition says of the rows and of the history. -/
theorem pre_of (m : (ℓ : Loc Cert.KernelIdeal.nD Cert.KernelIdeal.τ Cert.KernelIdeal.sig) → Buf (Elt Ideal) ℓ)
    (h : Cert.Pre_KernelIdeal_in_range (hPre_in_range := Cert.Pre_in_range.Gen.facts) m) (c : Dev Cert.KernelIdeal.nD) :
    Cert.KernelIdeal.Gen.Fin2 (Cert.KernelIdeal.Gen.X2 m c)
    ∧ ∀ k : Fin 16, (FloatOps.absf (m ((c.tc : Thread Cert.KernelIdeal.nD Cert.KernelIdeal.τ).loc Cert.KernelIdeal.main_arg3) (ix1 k) : Ideal .f32) : Ideal .f32) ≤ Cert.KernelIdeal.Gen.fMax := by
  obtain ⟨h1, h2⟩ := h c
  constructor
  · intro R k
    rw [Cert.KernelIdeal.Gen.X2_at]
    exact le_of_ofBool (congrFun h1 (ix3 ⟨R.val / 2048, by omega⟩ ⟨R.val % 2048, by omega⟩ k))
  · intro k
    exact le_of_ofBool (congrFun h2 (ix1 k))

/-- The kernel and the reference, both over the reals, leave the same five results. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hm
  have hX : ∀ c : Dev Cert.KernelIdeal.nD, Cert.ReferenceIdeal.Gen.X2 m' c = Cert.KernelIdeal.Gen.X2 m c := fun c => Cert.KernelIdeal.Gen.ext2 _ _ fun R k => by
    rw [Cert.ReferenceIdeal.Gen.X2_at, Cert.KernelIdeal.Gen.X2_at]
    exact congrFun (hm c).1 _
  have hWs : ∀ c : Dev Cert.KernelIdeal.nD, Cert.ReferenceIdeal.Gen.W2 m' c = Cert.KernelIdeal.Gen.W2 m c := fun c => Cert.KernelIdeal.Gen.ext2 _ _ fun z q => by
    rw [show z = 0 from Subsingleton.elim _ _, Cert.ReferenceIdeal.Gen.W2_at, Cert.KernelIdeal.Gen.W2_at]
    exact congrFun (hm c).2.2.1 _
  have hW : ∀ (c : Dev Cert.KernelIdeal.nD) k q, m ((c.tc : Thread Cert.KernelIdeal.nD Cert.KernelIdeal.τ).loc Cert.KernelIdeal.main_arg1) (ix2 k q) = Cert.ReferenceIdeal.Gen.W1 m' c (ix2 k q) := fun c k q => by
    rw [Cert.ReferenceIdeal.Gen.W1_at]
    exact (congrFun (hm c).2.1 _).symm
  have hH : ∀ (c : Dev Cert.KernelIdeal.nD) k, Cert.ReferenceIdeal.Gen.H2 m' c (ix2 0 k) = m ((c.tc : Thread Cert.KernelIdeal.nD Cert.KernelIdeal.τ).loc Cert.KernelIdeal.main_arg3) (ix1 k) := fun c k => by
    rw [Cert.ReferenceIdeal.Gen.H2_at]
    exact congrFun (hm c).2.2.2 _
  have hF := fun c => (pre_of m hpre c).1
  have hh : ∀ (c : Dev Cert.KernelIdeal.nD) k, (FloatOps.absf (Cert.ReferenceIdeal.Gen.H2 m' c (ix2 0 k) : Ideal .f32) : Ideal .f32) ≤ Cert.KernelIdeal.Gen.fMax := fun c k => by
    rw [hH c k]
    exact (pre_of m hpre c).2 k
  refine ⟨fun c => Cert.KernelIdeal.Gen.G6 m c, fun c => Cert.KernelIdeal.Gen.o7 m c, fun c => Cert.KernelIdeal.Gen.o8 m c,
    fun c => Cert.KernelIdeal.Gen.G9 m c, fun c => Cert.KernelIdeal.Gen.o10 m c, ?_, ?_⟩
  · exact (θ_run _ _ _).mono (fun r h c => ⟨(h.1 c).1, (h.1 c).2.1, (h.1 c).2.2.1, (h.1 c).2.2.2.1, (h.1 c).2.2.2.2, h.2.1 c⟩)
      (θ_run_and (Cert.KernelIdeal.Gen.run_values m g) (Cert.KernelIdeal.Gen.frame m g))
  · refine (θ_run _ _ _).mono (fun r h c => ⟨(h.1 c).1.trans ?_, (h.1 c).2.1.trans ?_, (h.1 c).2.2.1.trans ?_, (h.1 c).2.2.2.1.trans ?_, (h.1 c).2.2.2.2.trans ?_, h.2.1 c⟩)
      (θ_run_and (Cert.ReferenceIdeal.Gen.run_values m' g') (Cert.ReferenceIdeal.Gen.frame m' g'))
    · rw [hX c, hWs c]
      exact (Cert.KernelIdeal.Gen.G6_eq m (Cert.ReferenceIdeal.Gen.W1 m' c) (Cert.ReferenceIdeal.Gen.H2 m' c) c (hF c) (hW c) (hH c) (hh c)).symm
    · exact (Cert.KernelIdeal.Gen.o7_eq m (Cert.ReferenceIdeal.Gen.H2 m' c) c (hH c) (hh c)).symm
    · rw [hX c, hWs c]
      exact (Cert.KernelIdeal.Gen.o8_eq m (Cert.ReferenceIdeal.Gen.W1 m' c) c (hF c) (hW c)).symm
    · rw [hX c]
      exact (Cert.KernelIdeal.Gen.G9_eq m c (hF c)).symm
    · rw [hX c]
      exact (Cert.KernelIdeal.Gen.o10_eq m c (hF c)).symm

theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    trivial, algebraic⟩

end Cert.Proof

end
